-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "half_inv_sqrt_d" .f32 0x3CB504F3#32 (((Real.sqrt 2048)⁻¹ : ℝ) : EReal)
  ∧ IdealRules.named_const.Statement Cert.KernelIdeal.κ "out_of_the_running" .f32 0x7149F2CA#32 ⊤

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S32x16x512 : Shape := ⟨3, ![32, 16, 512]⟩
abbrev S32x16x8x512 : Shape := ⟨4, ![32, 16, 8, 512]⟩
abbrev S32x16x8 : Shape := ⟨3, ![32, 16, 8]⟩
abbrev S512x512 : Shape := ⟨2, ![512, 512]⟩
abbrev S512 : Shape := ⟨1, ![512]⟩
abbrev S32x512 : Shape := ⟨2, ![32, 512]⟩
abbrev S32x512x32 : Shape := ⟨3, ![32, 512, 32]⟩
abbrev S32x32x1024 : Shape := ⟨3, ![32, 32, 1024]⟩
abbrev S512x1024 : Shape := ⟨2, ![512, 1024]⟩
abbrev S1024 : Shape := ⟨1, ![1024]⟩
abbrev S1024x512 : Shape := ⟨2, ![1024, 512]⟩
abbrev S_ : Shape := ⟨0, ![]⟩

class Facts : Prop where
  bcast_S_S32x16x8x512 : S_.BroadcastsInDim S32x16x8x512 (![] : Fin 0 → Fin S32x16x8x512.rank)
  bcast_S_S32x16x8 : S_.BroadcastsInDim S32x16x8 (![] : Fin 0 → Fin S32x16x8.rank)
  bcast_S_S32x16x512 : S_.BroadcastsInDim S32x16x512 (![] : Fin 0 → Fin S32x16x512.rank)
  bcast_S_S512x512 : S_.BroadcastsInDim S512x512 (![] : Fin 0 → Fin S512x512.rank)
  bcast_S_S512 : S_.BroadcastsInDim S512 (![] : Fin 0 → Fin S512.rank)
  bcast_S_S32x512 : S_.BroadcastsInDim S32x512 (![] : Fin 0 → Fin S32x512.rank)

variable [Facts]

def fn_part1 {F : FTy → Type} [FloatOps F] (main_arg7 : FVec F S512 .f32) (main_arg10 : FVec F S32x512 .f32) (main_v2 : IVec S32x16x8x512 1) (main_v5 : IVec S32x16x8 1) (main_v8 : IVec S32x16x512 1) (main_v11 : IVec S512x512 1) (main_v14 : IVec S512 1) (main_v17 : IVec S512x512 1) : IVec S32x16x8x512 1 × IVec S32x16x8 1 × IVec S32x16x512 1 × IVec S512x512 1 × IVec S512 1 × IVec S512x512 1 × IVec S512 1 × IVec S32x512 1 :=
  let main_v18 : FVec F S512 .f32 := Host.absf main_arg7
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S32x512 .f32 := Host.absf main_arg10
  let main_cst_6 : FVec F S_ .f32 := constant S_ .f32 0x7F800000#32
  let main_v22 : FVec F S32x512 .f32 := broadcastInDim S32x512 ![] bcast_S_S32x512 main_cst_6
  let main_v23 : IVec S32x512 1 := cmpf .olt main_v21 main_v22
  (main_v2, main_v5, main_v8, main_v11, main_v14, main_v17, main_v20, main_v23)

def fn {F : FTy → Type} [FloatOps F] (main_arg0 : FVec F S32x16x512 .f32) (main_arg1 : FVec F S32x16x8x512 .f32) (main_arg2 : FVec F S32x16x8 .f32) (main_arg3 : FVec F S32x16x512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S32x512 .f32) (main_arg11 : FVec F S32x512x32 .f32) (main_arg12 : FVec F S32x32x1024 .f32) (main_arg13 : FVec F S512x1024 .f32) (main_arg14 : FVec F S1024 .f32) (main_arg15 : FVec F S1024x512 .f32) (main_arg16 : FVec F S512 .f32) : IVec S32x16x8x512 1 × IVec S32x16x8 1 × IVec S32x16x512 1 × IVec S512x512 1 × IVec S512 1 × IVec S512x512 1 × IVec S512 1 × IVec S32x512 1 :=
  let main_v0 : FVec F S32x16x8x512 .f32 := Host.absf main_arg1
  let main_cst : FVec F S_ .f32 := constant S_ .f32 0x7F800000#32
  let main_v1 : FVec F S32x16x8x512 .f32 := broadcastInDim S32x16x8x512 ![] bcast_S_S32x16x8x512 main_cst
  let main_v2 : IVec S32x16x8x512 1 := cmpf .olt main_v0 main_v1
  let main_v3 : FVec F S32x16x8 .f32 := Host.absf main_arg2
  let main_cst_0 : FVec F S_ .f32 := constant S_ .f32 0x7F800000#32
  let main_v4 : FVec F S32x16x8 .f32 := broadcastInDim S32x16x8 ![] bcast_S_S32x16x8 main_cst_0
  let main_v5 : IVec S32x16x8 1 := cmpf .olt main_v3 main_v4
  let main_v6 : FVec F S32x16x512 .f32 := Host.absf main_arg3
  let main_cst_1 : FVec F S_ .f32 := constant S_ .f32 0x7F800000#32
  let main_v7 : FVec F S32x16x512 .f32 := broadcastInDim S32x16x512 ![] bcast_S_S32x16x512 main_cst_1
  let main_v8 : IVec S32x16x512 1 := cmpf .olt main_v6 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_v12 : FVec F S512 .f32 := Host.absf main_arg5
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S512x512 .f32 := Host.absf main_arg6
  let main_cst_4 : FVec F S_ .f32 := constant S_ .f32 0x7F800000#32
  let main_v16 : FVec F S512x512 .f32 := broadcastInDim S512x512 ![] bcast_S_S512x512 main_cst_4
  let main_v17 : IVec S512x512 1 := cmpf .olt main_v15 main_v16
  fn_part1 (F := F) main_arg7 main_arg10 main_v2 main_v5 main_v8 main_v11 main_v14 main_v17
-- ==== Kernel.lean ====
abbrev S32x16x512 : Shape := ⟨3, ![32, 16, 512]⟩
abbrev S32x16x8x512 : Shape := ⟨4, ![32, 16, 8, 512]⟩
abbrev S32x16x8 : Shape := ⟨3, ![32, 16, 8]⟩
abbrev S512x512 : Shape := ⟨2, ![512, 512]⟩
abbrev S512 : Shape := ⟨1, ![512]⟩
abbrev S32x512 : Shape := ⟨2, ![32, 512]⟩
abbrev S32x512x32 : Shape := ⟨3, ![32, 512, 32]⟩
abbrev S32x32x1024 : Shape := ⟨3, ![32, 32, 1024]⟩
abbrev S512x1024 : Shape := ⟨2, ![512, 1024]⟩
abbrev S1024 : Shape := ⟨1, ![1024]⟩
abbrev S1024x512 : Shape := ⟨2, ![1024, 512]⟩
abbrev S512x4096 : Shape := ⟨2, ![512, 4096]⟩
abbrev S512x8 : Shape := ⟨2, ![512, 8]⟩
abbrev S8x512 : Shape := ⟨2, ![8, 512]⟩
abbrev S32x32x512 : Shape := ⟨3, ![32, 32, 512]⟩
abbrev S1024x1024 : Shape := ⟨2, ![1024, 1024]⟩
abbrev S512x1 : Shape := ⟨2, ![512, 1]⟩
abbrev S1024x1 : Shape := ⟨2, ![1024, 1]⟩
abbrev S1x512 : Shape := ⟨2, ![1, 512]⟩
abbrev S256x4096 : Shape := ⟨2, ![256, 4096]⟩
abbrev S256x512 : Shape := ⟨2, ![256, 512]⟩
abbrev S8x256 : Shape := ⟨2, ![8, 256]⟩
abbrev S8x512x256 : Shape := ⟨3, ![8, 512, 256]⟩
abbrev S512x256 : Shape := ⟨2, ![512, 256]⟩
abbrev S1x512x256 : Shape := ⟨3, ![1, 512, 256]⟩
abbrev S8x64x256 : Shape := ⟨3, ![8, 64, 256]⟩
abbrev S8x1x256 : Shape := ⟨3, ![8, 1, 256]⟩
abbrev S1x256 : Shape := ⟨2, ![1, 256]⟩
abbrev S32x256 : Shape := ⟨2, ![32, 256]⟩
abbrev S256 : Shape := ⟨1, ![256]⟩
abbrev S1024x256 : Shape := ⟨2, ![1024, 256]⟩
abbrev S32x1x256 : Shape := ⟨3, ![32, 1, 256]⟩
abbrev S32x32x256 : Shape := ⟨3, ![32, 32, 256]⟩

abbrev nBuf : Space → Nat
  | .hbm => 32
  | .vmem => 26
  | .smem => 0
  | _ => 0

abbrev bufTy : (tb : Table) → Fin (tcTables nBuf tb) → BufTy
  | .hbm, ⟨0, _⟩ => ⟨S32x16x512, .f32⟩
  | .hbm, ⟨1, _⟩ => ⟨S32x16x8x512, .f32⟩
  | .hbm, ⟨2, _⟩ => ⟨S32x16x8, .f32⟩
  | .hbm, ⟨3, _⟩ => ⟨S32x16x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S32x512, .f32⟩
  | .hbm, ⟨11, _⟩ => ⟨S32x512x32, .f32⟩
  | .hbm, ⟨12, _⟩ => ⟨S32x32x1024, .f32⟩
  | .hbm, ⟨13, _⟩ => ⟨S512x1024, .f32⟩
  | .hbm, ⟨14, _⟩ => ⟨S1024, .f32⟩
  | .hbm, ⟨15, _⟩ => ⟨S1024x512, .f32⟩
  | .hbm, ⟨16, _⟩ => ⟨S512, .f32⟩
  | .hbm, ⟨17, _⟩ => ⟨S512x4096, .f32⟩
  | .hbm, ⟨18, _⟩ => ⟨S512x512, .f32⟩
  | .hbm, ⟨19, _⟩ => ⟨S512x512, .f32⟩
  | .hbm, ⟨20, _⟩ => ⟨S512x8, .f32⟩
  | .hbm, ⟨21, _⟩ => ⟨S8x512, .f32⟩
  | .hbm, ⟨22, _⟩ => ⟨S32x32x512, .f32⟩
  | .hbm, ⟨23, _⟩ => ⟨S1024x512, .f32⟩
  | .hbm, ⟨24, _⟩ => ⟨S1024x1024, .f32⟩
  | .hbm, ⟨25, _⟩ => ⟨S512x1, .f32⟩
  | .hbm, ⟨26, _⟩ => ⟨S512x1, .f32⟩
  | .hbm, ⟨27, _⟩ => ⟨S512x1, .f32⟩
  | .hbm, ⟨28, _⟩ => ⟨S1024x1, .f32⟩
  | .hbm, ⟨29, _⟩ => ⟨S1x512, .f32⟩
  | .hbm, ⟨30, _⟩ => ⟨S512x512, .f32⟩
  | .hbm, ⟨31, _⟩ => ⟨S32x16x512, .f32⟩
  | .local _ .vmem, ⟨0, _⟩ => ⟨S256x4096, .f32⟩
  | .local _ .vmem, ⟨1, _⟩ => ⟨S256x4096, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x256, .f32⟩
  | .local _ .vmem, ⟨7, _⟩ => ⟨S8x256, .f32⟩
  | .local _ .vmem, ⟨8, _⟩ => ⟨S512x512, .f32⟩
  | .local _ .vmem, ⟨9, _⟩ => ⟨S512x1, .f32⟩
  | .local _ .vmem, ⟨10, _⟩ => ⟨S512x512, .f32⟩
  | .local _ .vmem, ⟨11, _⟩ => ⟨S512x1, .f32⟩
  | .local _ .vmem, ⟨12, _⟩ => ⟨S512x512, .f32⟩
  | .local _ .vmem, ⟨13, _⟩ => ⟨S512x1, .f32⟩
  | .local _ .vmem, ⟨14, _⟩ => ⟨S32x512, .f32⟩
  | .local _ .vmem, ⟨15, _⟩ => ⟨S1024x512, .f32⟩
  | .local _ .vmem, ⟨16, _⟩ => ⟨S1024x1024, .f32⟩
  | .local _ .vmem, ⟨17, _⟩ => ⟨S512x1024, .f32⟩
  | .local _ .vmem, ⟨18, _⟩ => ⟨S1024x1, .f32⟩
  | .local _ .vmem, ⟨19, _⟩ => ⟨S1024x512, .f32⟩
  | .local _ .vmem, ⟨20, _⟩ => ⟨S1x512, .f32⟩
  | .local _ .vmem, ⟨21, _⟩ => ⟨S256x512, .f32⟩
  | .local _ .vmem, ⟨22, _⟩ => ⟨S256x512, .f32⟩
  | .local _ .vmem, ⟨23, _⟩ => ⟨S8x512x256, .f32⟩
  | .local _ .vmem, ⟨24, _⟩ => ⟨S8x512x256, .f32⟩
  | .local _ .vmem, ⟨25, _⟩ => ⟨S8x512x256, .f32⟩
  | _, _ => ⟨S32x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "half_inv_sqrt_d" => some (((Real.sqrt 2048)⁻¹ : ℝ) : EReal)
  | "out_of_the_running" => some ⊤
  | _ => none
-- ==== ReferenceIdeal.lean ====
abbrev S32x16x512 : Shape := ⟨3, ![32, 16, 512]⟩
abbrev S32x16x8x512 : Shape := ⟨4, ![32, 16, 8, 512]⟩
abbrev S32x16x8 : Shape := ⟨3, ![32, 16, 8]⟩
abbrev S512x512 : Shape := ⟨2, ![512, 512]⟩
abbrev S512 : Shape := ⟨1, ![512]⟩
abbrev S32x512 : Shape := ⟨2, ![32, 512]⟩
abbrev S32x512x32 : Shape := ⟨3, ![32, 512, 32]⟩
abbrev S32x32x1024 : Shape := ⟨3, ![32, 32, 1024]⟩
abbrev S512x1024 : Shape := ⟨2, ![512, 1024]⟩
abbrev S1024 : Shape := ⟨1, ![1024]⟩
abbrev S1024x512 : Shape := ⟨2, ![1024, 512]⟩
abbrev S512x8x512 : Shape := ⟨3, ![512, 8, 512]⟩
abbrev S1x1x512 : Shape := ⟨3, ![1, 1, 512]⟩
abbrev S512x8x8x64 : Shape := ⟨4, ![512, 8, 8, 64]⟩
abbrev S_ : Shape := ⟨0, ![]⟩
abbrev S512x8x64x8 : Shape := ⟨4, ![512, 8, 64, 8]⟩
abbrev S512x8x8x8 : Shape := ⟨4, ![512, 8, 8, 8]⟩
abbrev S512x8x8 : Shape := ⟨3, ![512, 8, 8]⟩
abbrev S512x8x8x1 : Shape := ⟨4, ![512, 8, 8, 1]⟩
abbrev S32x16x8x1 : Shape := ⟨4, ![32, 16, 8, 1]⟩
abbrev S512x32 : Shape := ⟨2, ![512, 32]⟩
abbrev S32x16x32 : Shape := ⟨3, ![32, 16, 32]⟩
abbrev S32x16x4 : Shape := ⟨3, ![32, 16, 4]⟩
abbrev S32x16 : Shape := ⟨2, ![32, 16]⟩
abbrev S32x16x1 : Shape := ⟨3, ![32, 16, 1]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S2048x512x32 : Shape := ⟨3, ![2048, 512, 32]⟩
abbrev S32x16x4x512x32 : Shape := ⟨5, ![32, 16, 4, 512, 32]⟩
abbrev S2048x32x1024 : Shape := ⟨3, ![2048, 32, 1024]⟩
abbrev S32x16x4x32x1024 : Shape := ⟨5, ![32, 16, 4, 32, 1024]⟩
abbrev S32x16x1x1x512 : Shape := ⟨5, ![32, 16, 1, 1, 512]⟩
abbrev S32x16x1x512 : Shape := ⟨4, ![32, 16, 1, 512]⟩
abbrev S32x16x1x4x32 : Shape := ⟨5, ![32, 16, 1, 4, 32]⟩
abbrev S32x16x4x1x32 : Shape := ⟨5, ![32, 16, 4, 1, 32]⟩
abbrev S32x16x4x32 : Shape := ⟨4, ![32, 16, 4, 32]⟩
abbrev S32x16x4x1x1024 : Shape := ⟨5, ![32, 16, 4, 1, 1024]⟩
abbrev S32x16x4x1024 : Shape := ⟨4, ![32, 16, 4, 1024]⟩
abbrev S32x16x4x1 : Shape := ⟨4, ![32, 16, 4, 1]⟩
abbrev S32x16x1024 : Shape := ⟨3, ![32, 16, 1024]⟩
abbrev S1x1x1024 : Shape := ⟨3, ![1, 1, 1024]⟩

abbrev nBuf : Space → Nat
  | .hbm => 190
  | .vmem => 0
  | .smem => 0
  | _ => 0

abbrev hbmTy0_0 (i : Nat) : BufTy := match i % 128 with
  | 0 => ⟨S32x16x512, .f32⟩
  | 1 => ⟨S32x16x8x512, .f32⟩
  | 2 => ⟨S32x16x8, .f32⟩
  | 3 => ⟨S32x16x512, .f32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S32x512, .f32⟩
  | 11 => ⟨S32x512x32, .f32⟩
  | 12 => ⟨S32x32x1024, .f32⟩
  | 13 => ⟨S512x1024, .f32⟩
  | 14 => ⟨S1024, .f32⟩
  | 15 => ⟨S1024x512, .f32⟩
  | 16 => ⟨S512, .f32⟩
  | 17 => ⟨S512x8x512, .f32⟩
  | 18 => ⟨S512x8x512, .f32⟩
  | 19 => ⟨S1x1x512, .f32⟩
  | 20 => ⟨S512x8x512, .f32⟩
  | 21 => ⟨S512x8x512, .f32⟩
  | 22 => ⟨S512x8x8x64, .f32⟩
  | 23 => ⟨S512x8x8x64, .f32⟩
  | 24 => ⟨S512x8x512, .f32⟩
  | 25 => ⟨S1x1x512, .f32⟩
  | 26 => ⟨S512x8x512, .f32⟩
  | 27 => ⟨S512x8x512, .f32⟩
  | 28 => ⟨S512x8x8x64, .f32⟩
  | 29 => ⟨S512x8x8x64, .f32⟩
  | 30 => ⟨S512x8x512, .f32⟩
  | 31 => ⟨S1x1x512, .f32⟩
  | 32 => ⟨S512x8x512, .f32⟩
  | 33 => ⟨S512x8x512, .f32⟩
  | 34 => ⟨S512x8x8x64, .f32⟩
  | 35 => ⟨S512x8x8x64, .f32⟩
  | 36 => ⟨S512x8x8x64, .f32⟩
  | 37 => ⟨S_, .f32⟩
  | 38 => ⟨S512x8x8x64, .f32⟩
  | 39 => ⟨S512x8x8x64, .f32⟩
  | 40 => ⟨S_, .f32⟩
  | 41 => ⟨S512x8x8x64, .f32⟩
  | 42 => ⟨S512x8x8x64, .f32⟩
  | 43 => ⟨S512x8x8x64, .f32⟩
  | 44 => ⟨S512x8x64x8, .f32⟩
  | 45 => ⟨S512x8x8x8, .f32⟩
  | 46 => ⟨S_, .f32⟩
  | 47 => ⟨S512x8x8x8, .f32⟩
  | 48 => ⟨S512x8x8x8, .f32⟩
  | 49 => ⟨S_, .f32⟩
  | 50 => ⟨S512x8x8, .f32⟩
  | 51 => ⟨S_, .f32⟩
  | 52 => ⟨S512x8x8, .f32⟩
  | 53 => ⟨S512x8x8, .f32⟩
  | 54 => ⟨S512x8x8x1, .f32⟩
  | 55 => ⟨S512x8x8x8, .f32⟩
  | 56 => ⟨S512x8x8x8, .f32⟩
  | 57 => ⟨S512x8x8x8, .f32⟩
  | 58 => ⟨S_, .f32⟩
  | 59 => ⟨S512x8x8, .f32⟩
  | 60 => ⟨S512x8x8x1, .f32⟩
  | 61 => ⟨S512x8x8x8, .f32⟩
  | 62 => ⟨S512x8x8x8, .f32⟩
  | 63 => ⟨S512x8x8x64, .f32⟩
  | 64 => ⟨S512x8x8x64, .f32⟩
  | 65 => ⟨S32x16x8x512, .f32⟩
  | 66 => ⟨S32x16x8x512, .f32⟩
  | 67 => ⟨S32x16x8x1, .f32⟩
  | 68 => ⟨S32x16x8x512, .f32⟩
  | 69 => ⟨S32x16x8x512, .f32⟩
  | 70 => ⟨S_, .f32⟩
  | 71 => ⟨S32x16x512, .f32⟩
  | 72 => ⟨S512x32, .f32⟩
  | 73 => ⟨S32x16x32, .f32⟩
  | 74 => ⟨S_, .f32⟩
  | 75 => ⟨S_, .f32⟩
  | 76 => ⟨S32x16x32, .f32⟩
  | 77 => ⟨S32x16x32, .f32⟩
  | 78 => ⟨S512x32, .f32⟩
  | 79 => ⟨S32x16x32, .f32⟩
  | 80 => ⟨S_, .f32⟩
  | 81 => ⟨S32x16x32, .f32⟩
  | 82 => ⟨S32x16x32, .f32⟩
  | 83 => ⟨S_, .f32⟩
  | 84 => ⟨S32x16x32, .f32⟩
  | 85 => ⟨S32x16x32, .f32⟩
  | 86 => ⟨S32x16x32, .f32⟩
  | 87 => ⟨S32x16x4, .f32⟩
  | 88 => ⟨S32x16x4, .i32⟩
  | 89 => ⟨S_, .f32⟩
  | 90 => ⟨S32x16, .f32⟩
  | 91 => ⟨S_, .f32⟩
  | 92 => ⟨S32x16, .f32⟩
  | 93 => ⟨S32x16, .f32⟩
  | 94 => ⟨S32x16x1, .f32⟩
  | 95 => ⟨S32x16x4, .f32⟩
  | 96 => ⟨S32x16x4, .f32⟩
  | 97 => ⟨S32x16x4, .f32⟩
  | 98 => ⟨S_, .f32⟩
  | 99 => ⟨S32x16, .f32⟩
  | 100 => ⟨S32x16x1, .f32⟩
  | 101 => ⟨S32x16x4, .f32⟩
  | 102 => ⟨S32x16x4, .f32⟩
  | 103 => ⟨S32x16x512, .f32⟩
  | 104 => ⟨S2048, .i32⟩
  | 105 => ⟨S_, .i32⟩
  | 106 => ⟨S2048, .i32⟩
  | 107 => ⟨S2048, .i1⟩
  | 108 => ⟨S_, .i32⟩
  | 109 => ⟨S2048, .i32⟩
  | 110 => ⟨S2048, .i32⟩
  | 111 => ⟨S2048, .i32⟩
  | 112 => ⟨S2048x1, .i32⟩
  | 113 => ⟨S1, .i32⟩
  | 114 => ⟨S_, .i32⟩
  | 115 => ⟨S2048x1, .i32⟩
  | 116 => ⟨S2048x1, .i1⟩
  | 117 => ⟨S1x1, .i32⟩
  | 118 => ⟨S2048x1, .i32⟩
  | 119 => ⟨S2048x1, .i1⟩
  | 120 => ⟨S2048x1, .i1⟩
  | 121 => ⟨S_, .i1⟩
  | 122 => ⟨S2048, .i1⟩
  | 123 => ⟨S2048x512x32, .f32⟩
  | 124 => ⟨S2048x512x32, .i1⟩
  | 125 => ⟨S_, .f32⟩
  | 126 => ⟨S2048x512x32, .f32⟩
  | 127 => ⟨S2048x512x32, .f32⟩
  | _ => ⟨S32x16x512, .f32⟩

abbrev hbmTy0_1 (i : Nat) : BufTy := match i % 128 with
  | 0 => ⟨S32x16x4x512x32, .f32⟩
  | 1 => ⟨S_, .i32⟩
  | 2 => ⟨S2048, .i32⟩
  | 3 => ⟨S2048, .i1⟩
  | 4 => ⟨S_, .i32⟩
  | 5 => ⟨S2048, .i32⟩
  | 6 => ⟨S2048, .i32⟩
  | 7 => ⟨S2048, .i32⟩
  | 8 => ⟨S2048x1, .i32⟩
  | 9 => ⟨S1, .i32⟩
  | 10 => ⟨S_, .i32⟩
  | 11 => ⟨S2048x1, .i32⟩
  | 12 => ⟨S2048x1, .i1⟩
  | 13 => ⟨S1x1, .i32⟩
  | 14 => ⟨S2048x1, .i32⟩
  | 15 => ⟨S2048x1, .i1⟩
  | 16 => ⟨S2048x1, .i1⟩
  | 17 => ⟨S_, .i1⟩
  | 18 => ⟨S2048, .i1⟩
  | 19 => ⟨S2048x32x1024, .f32⟩
  | 20 => ⟨S2048x32x1024, .i1⟩
  | 21 => ⟨S_, .f32⟩
  | 22 => ⟨S2048x32x1024, .f32⟩
  | 23 => ⟨S2048x32x1024, .f32⟩
  | 24 => ⟨S32x16x4x32x1024, .f32⟩
  | 25 => ⟨S32x16x1x1x512, .f32⟩
  | 26 => ⟨S32x16x1x512, .f32⟩
  | 27 => ⟨S32x16x1x4x32, .f32⟩
  | 28 => ⟨S32x16x4x1x32, .f32⟩
  | 29 => ⟨S32x16x4x32, .f32⟩
  | 30 => ⟨S32x16x4x1x32, .f32⟩
  | 31 => ⟨S32x16x4x1x1024, .f32⟩
  | 32 => ⟨S32x16x4x1024, .f32⟩
  | 33 => ⟨S32x16x4x1, .f32⟩
  | 34 => ⟨S32x16x4x1024, .f32⟩
  | 35 => ⟨S32x16x4x1024, .f32⟩
  | 36 => ⟨S_, .f32⟩
  | 37 => ⟨S32x16x1024, .f32⟩
  | 38 => ⟨S32x16x1024, .f32⟩
  | 39 => ⟨S1x1x1024, .f32⟩
  | 40 => ⟨S32x16x1024, .f32⟩
  | 41 => ⟨S32x16x1024, .f32⟩
  | 42 => ⟨S_, .f32⟩
  | 43 => ⟨S32x16x1024, .f32⟩
  | 44 => ⟨S32x16x1024, .f32⟩
  | 45 => ⟨S_, .f32⟩
  | 46 => ⟨S32x16x1024, .f32⟩
  | 47 => ⟨S32x16x1024, .f32⟩
  | 48 => ⟨S32x16x1024, .f32⟩
  | 49 => ⟨S_, .f32⟩
  | 50 => ⟨S32x16x1024, .f32⟩
  | 51 => ⟨S32x16x1024, .f32⟩
  | 52 => ⟨S32x16x1024, .f32⟩
  | 53 => ⟨S_, .f32⟩
  | 54 => ⟨S32x16x1024, .f32⟩
  | 55 => ⟨S32x16x1024, .f32⟩
  | 56 => ⟨S32x16x1024, .f32⟩
  | 57 => ⟨S32x16x1024, .f32⟩
  | 58 => ⟨S32x16x512, .f32⟩
  | 59 => ⟨S1x1x512, .f32⟩
  | 60 => ⟨S32x16x512, .f32⟩
  | 61 => ⟨S32x16x512, .f32⟩
  | _ => ⟨S32x16x512, .f32⟩

abbrev hbmTy (i : Nat) : BufTy := match i / 128 with
  | 0 => hbmTy0_0 i
  | 1 => hbmTy0_1 i
  | _ => ⟨S32x16x512, .f32⟩

abbrev bufTy : (tb : Table) → Fin (tcTables nBuf tb) → BufTy
  | .hbm, ⟨i, _⟩ => hbmTy i
  | _, _ => ⟨S32x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_v28 : Ref sig .tc := ⟨.hbm, 48, rfl⟩
abbrev main_cst_2 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_values : Ref sig .tc := ⟨.hbm, 87, rfl⟩
abbrev main_indices : Ref sig .tc := ⟨.hbm, 88, rfl⟩
abbrev main_cst_9 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_call0_c : Ref sig .tc := ⟨.hbm, 105, rfl⟩
abbrev main_call0_v0 : Ref sig .tc := ⟨.hbm, 106, rfl⟩
abbrev main_call0_v1 : Ref sig .tc := ⟨.hbm, 107, rfl⟩
abbrev main_call0_c_0 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_v5 : Ref sig .tc := ⟨.hbm, 112, rfl⟩
abbrev main_call0_c_1 : Ref sig .tc := ⟨.hbm, 113, rfl⟩
abbrev main_call0_c_2 : Ref sig .tc := ⟨.hbm, 114, rfl⟩
abbrev main_call0_v6 : Ref sig .tc := ⟨.hbm, 115, rfl⟩
abbrev main_call0_v7 : Ref sig .tc := ⟨.hbm, 116, rfl⟩
abbrev main_call0_v8 : Ref sig .tc := ⟨.hbm, 117, rfl⟩
abbrev main_call0_v9 : Ref sig .tc := ⟨.hbm, 118, rfl⟩
abbrev main_call0_v10 : Ref sig .tc := ⟨.hbm, 119, rfl⟩
abbrev main_call0_v11 : Ref sig .tc := ⟨.hbm, 120, rfl⟩
abbrev main_call0_c_3 : Ref sig .tc := ⟨.hbm, 121, rfl⟩
abbrev main_call0_v12 : Ref sig .tc := ⟨.hbm, 122, rfl⟩
abbrev main_call0_v13 : Ref sig .tc := ⟨.hbm, 123, rfl⟩
abbrev main_call0_v14 : Ref sig .tc := ⟨.hbm, 124, rfl⟩
abbrev main_call0_cst : Ref sig .tc := ⟨.hbm, 125, rfl⟩
abbrev main_call0_v15 : Ref sig .tc := ⟨.hbm, 126, rfl⟩
abbrev main_v73 : Ref sig .tc := ⟨.hbm, 127, rfl⟩
abbrev main_v74 : Ref sig .tc := ⟨.hbm, 128, rfl⟩
abbrev main_call1_c : Ref sig .tc := ⟨.hbm, 129, rfl⟩
abbrev main_call1_v0 : Ref sig .tc := ⟨.hbm, 130, rfl⟩
abbrev main_call1_v1 : Ref sig .tc := ⟨.hbm, 131, rfl⟩
abbrev main_call1_c_0 : Ref sig .tc := ⟨.hbm, 132, rfl⟩
abbrev main_call1_v2 : Ref sig .tc := ⟨.hbm, 133, rfl⟩
abbrev main_call1_v3 : Ref sig .tc := ⟨.hbm, 134, rfl⟩
abbrev main_call1_v4 : Ref sig .tc := ⟨.hbm, 135, rfl⟩
abbrev main_call1_v5 : Ref sig .tc := ⟨.hbm, 136, rfl⟩
abbrev main_call1_c_1 : Ref sig .tc := ⟨.hbm, 137, rfl⟩
abbrev main_call1_c_2 : Ref sig .tc := ⟨.hbm, 138, rfl⟩
abbrev main_call1_v6 : Ref sig .tc := ⟨.hbm, 139, rfl⟩
abbrev main_call1_v7 : Ref sig .tc := ⟨.hbm, 140, rfl⟩
abbrev main_call1_v8 : Ref sig .tc := ⟨.hbm, 141, rfl⟩
abbrev main_call1_v9 : Ref sig .tc := ⟨.hbm, 142, rfl⟩
abbrev main_call1_v10 : Ref sig .tc := ⟨.hbm, 143, rfl⟩
abbrev main_call1_v11 : Ref sig .tc := ⟨.hbm, 144, rfl⟩
abbrev main_call1_c_3 : Ref sig .tc := ⟨.hbm, 145, rfl⟩
abbrev main_call1_v12 : Ref sig .tc := ⟨.hbm, 146, rfl⟩
abbrev main_call1_v13 : Ref sig .tc := ⟨.hbm, 147, rfl⟩
abbrev main_call1_v14 : Ref sig .tc := ⟨.hbm, 148, rfl⟩
abbrev main_call1_cst : Ref sig .tc := ⟨.hbm, 149, rfl⟩
abbrev main_call1_v15 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_cst_12 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_cst_13 : Ref sig .tc := ⟨.hbm, 170, rfl⟩
abbrev main_v93 : Ref sig .tc := ⟨.hbm, 171, rfl⟩
abbrev main_v94 : Ref sig .tc := ⟨.hbm, 172, rfl⟩
abbrev main_cst_14 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_cst_15 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_cst_16 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩

abbrev nD : Nat := 1
abbrev τ : Topo := Topo.v7x

variable {F : FTy → Type} [FloatOps F]
-- ==== Proof.Frames.lean ====
/- What the claim says besides the value: every program runs to its end and leaves its arguments unchanged, and the named
   constants are the printed ones. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run

@[expose] public section

noncomputable section

namespace Cert.KProof

open Idealize.ShloMosaic Idealize.SL.Sem

/-- The kernel terminates, with its arguments unchanged and every semaphore at zero. -/
theorem frame_p : Cert.quiescent_Kernel := fun m g _ => Cert.Kernel.Gen.frame m g

/-- The same for the kernel read over the extended reals. -/
theorem frame_pi : Cert.quiescent_KernelIdeal := fun m g _ => Cert.KernelIdeal.Gen.frame m g

/-- The same for the reference read over the extended reals. -/
theorem frame_ri : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The kernel's two named constants are the printed ones: half the reciprocal of the root of 512, rounded, and the
    amount taken from a score that has been picked. -/
theorem preserves : Cert.preserves_Kernel_KernelIdeal :=
  ⟨IdealRules.named_const.statement Cert.KernelIdeal.κ "half_inv_sqrt_d" .f32 0x3CB504F3#32 _ rfl,
    IdealRules.named_const.statement Cert.KernelIdeal.κ "out_of_the_running" .f32 0x7149F2CA#32 ⊤ rfl⟩

end Cert.KProof

end
-- ==== Proof.Block.lean ====
/- What one grid point of the kernel computes of its blocks, in the kernel's own operations: features run down the rows and
   tokens along the columns. `blockOut` is the block of results; `outs_eq` says that the kernel leaves it. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KProof.Block

open Cert.KernelIdeal Cert.KernelIdeal.Gen Idealize.ShloMosaic Idealize.ShloMosaic.TcCoe Idealize.SL.Sem

variable {F : FTy → Type} [FloatOps F] [Named F]

/-- The sum of eight arrays, the first two first. -/
def sum8 {s : Shape} (f : Fin 8 → FVec F s .f32) : FVec F s .f32 :=
  addf (addf (addf (addf (addf (addf (addf (f 0) (f 1)) (f 2)) (f 3)) (f 4)) (f 5)) (f 6)) (f 7)

/-- Eight arrays added onto zero, one after another. -/
def acc8 {s : Shape} (f : Fin 8 → FVec F s .f32) : FVec F s .f32 :=
  addf (addf (addf (addf (addf (addf (addf (addf (broadcast s (Scalar.ofBits .f32 0x00000000#32)) (f 0)) (f 1)) (f 2)) (f 3))
    (f 4)) (f 5)) (f 6)) (f 7)

/-- The largest of eight arrays, element by element. -/
def max8 {s : Shape} (f : Fin 8 → FVec F s .f32) : FVec F s .f32 :=
  maximumf (maximumf (maximumf (maximumf (maximumf (maximumf (maximumf (f 0) (f 1)) (f 2)) (f 3)) (f 4)) (f 5)) (f 6)) (f 7)

/-- The columns of neuron `i` lie in the block. -/
theorem inb_neuron (i : Fin 8) : ∀ a, (![0, 512 * i.val] : Fin 2 → Nat) a + S256x512.size a ≤ S256x4096.size a :=
  match i with
  | 0 => inb_S256x4096_S256x512_0_0
  | 1 => inb_S256x4096_S256x512_0_512
  | 2 => inb_S256x4096_S256x512_0_1024
  | 3 => inb_S256x4096_S256x512_0_1536
  | 4 => inb_S256x4096_S256x512_0_2048
  | 5 => inb_S256x4096_S256x512_0_2560
  | 6 => inb_S256x4096_S256x512_0_3072
  | 7 => inb_S256x4096_S256x512_0_3584

/-- Row `i` of the weights. -/
theorem slices_row (i : Fin 8) : S8x256.Slices ![i.val, 0] S1x256 :=
  match i with
  | 0 => slices_S8x256_o0_0_S1x256
  | 1 => slices_S8x256_o1_0_S1x256
  | 2 => slices_S8x256_o2_0_S1x256
  | 3 => slices_S8x256_o3_0_S1x256
  | 4 => slices_S8x256_o4_0_S1x256
  | 5 => slices_S8x256_o5_0_S1x256
  | 6 => slices_S8x256_o6_0_S1x256
  | 7 => slices_S8x256_o7_0_S1x256

/-- A block of tokens' vectors with the features down the rows. -/
def turn (x : FVec F S256x512 .f32) : FVec F S512x256 .f32 :=
  transpose S512x256 [1, 0] (shapeCast S256x512 x shapeCasts_S256x512_S256x512) transposes_S256x512_p1_0_S512x256

/-- An array put away in the scratch memory and taken out again. -/
def kept (v : FVec F S512x256 .f32) : FVec F S512x256 .f32 :=
  shapeCast S512x256 (shapeCast S1x512x256 v shapeCasts_S512x256_S1x512x256) shapeCasts_S1x512x256_S512x256

/-- Neuron `i` of every token. -/
def neuron (x0 : FVec F S256x4096 .f32) (i : Fin 8) : FVec F S512x256 .f32 :=
  turn (View.ld (Val := Elt F) (e' := .f32) x0 (Rect.unit (s := S256x4096) ![0, 512 * i.val] S256x512.size (inb_neuron i)))

/-- A dense layer. -/
def dense (W : FVec F S512x512 .f32) (b : FVec F S512x1 .f32) (n : FVec F S512x256 .f32) : FVec F S512x256 .f32 :=
  addf (matmul dot_S512x512_S512x256_S512x256_0_0_1_1_n_n none W n (constant S512x256 .f32 0x00000000#32))
    (broadcastTo S512x256 (shapeCast S512x1 b shapeCasts_S512x1_S512x1) broadcasts_S512x1_S512x256)

/-- The heads' scores of one key for one query: the products summed over a head's features, times an eighth. -/
def score (q k : FVec F S512x256 .f32) : FVec F S8x256 .f32 :=
  mulf (multiReduction .add [1] S8x256 (shapeCast S8x64x256 (mulf q k) shapeCasts_S512x256_S8x64x256) 0x00000000#32
    reduces_S8x64x256_S8x256 (.inl rfl) rfl) (broadcast S8x256 (Scalar.ofBits .f32 0x3E000000#32))

/-- Each head's number laid on all its features. -/
def spread (a : FVec F S8x256 .f32) : FVec F S512x256 .f32 :=
  shapeCast S512x256 (broadcastTo S8x64x256 (shapeCast S8x1x256 (shapeCast S8x1x256 a shapeCasts_S8x256_S8x1x256)
    shapeCasts_S8x1x256_S8x1x256) broadcasts_S8x1x256_S8x64x256) shapeCasts_S8x64x256_S512x256

/-- The attention weight of key `j` among eight scores. -/
def attn (s : Fin 8 → FVec F S8x256 .f32) (j : Fin 8) : FVec F S8x256 .f32 :=
  mulf (exp (subf (s j) (max8 s)))
    (divf (broadcast S8x256 (Scalar.ofBits .f32 0x3F800000#32)) (sum8 fun k => exp (subf (s k) (max8 s))))

/-- The gate: the values weighted by the attention. -/
def gate (s : Fin 8 → FVec F S8x256 .f32) (v : Fin 8 → FVec F S512x256 .f32) : FVec F S512x256 .f32 :=
  acc8 fun j => mulf (spread (attn s j)) (v j)

/-- The weight of neuron `i` on every feature. -/
def weight (w : FVec F S8x256 .f32) (i : Fin 8) : FVec F S512x256 .f32 :=
  broadcastTo S512x256 (extractStridedSlice S1x256 ![i.val, 0] (shapeCast S8x256 w shapeCasts_S8x256_S8x256) (slices_row i))
    broadcasts_S1x256_S512x256

/-- The neurons put together. -/
def agg (x0 : FVec F S256x4096 .f32) (w : FVec F S8x256 .f32) (Wq : FVec F S512x512 .f32) (bq : FVec F S512x1 .f32)
    (Wk : FVec F S512x512 .f32) (bk : FVec F S512x1 .f32) (Wv : FVec F S512x512 .f32) (bv : FVec F S512x1 .f32) :
    FVec F S512x256 .f32 :=
  acc8 fun i => mulf (mulf (weight w i) (kept (neuron x0 i)))
    (gate (fun j => score (dense Wq bq (kept (neuron x0 i))) (kept (dense Wk bk (neuron x0 j))))
      fun j => kept (logistic (dense Wv bv (neuron x0 j))))

/-- The patterns' scores. -/
def pscore (pq : FVec F S32x512 .f32) (a : FVec F S512x256 .f32) (ctx : FVec F S256x512 .f32) : FVec F S32x256 .f32 :=
  addf (mulf (matmul dot_S32x512_S512x256_S32x256_1_0_0_1_n_n none pq a (constant S32x256 .f32 0x00000000#32))
      (broadcast S32x256 (Named.named κ "half_inv_sqrt_d" 0x3CB504F3#32)))
    (mulf (matmul dot_S32x512_S256x512_S32x256_1_1_0_0_n_n none pq (shapeCast S256x512 ctx shapeCasts_S256x512_S256x512)
      (constant S32x256 .f32 0x00000000#32)) (broadcast S32x256 (Scalar.ofBits .f32 0x3F000000#32)))

/-- The largest score of each token. -/
def top (s : FVec F S32x256 .f32) : FVec F S1x256 .f32 :=
  shapeCast S1x256 (multiReduction .maximumf [0] S256 s 0xFF800000#32 reduces_S32x256_S256 (.inl rfl) rfl) shapeCasts_S256_S1x256

/-- One at the first pattern with the largest score, zero elsewhere. -/
def mark (s : FVec F S32x256 .f32) : FVec F S32x256 .f32 :=
  sitofp .f32 (extui 32 (cmpi .eq (iota .tc S32x256 32 [0] iota_S32x256_d0_w32)
    (broadcastTo S32x256 (shapeCast S1x256 (multiReductionI .minsi [0] S256
      (select (cmpf .oeq s (broadcastTo S32x256 (top s) broadcasts_S1x256_S32x256)) (iota .tc S32x256 32 [0] iota_S32x256_d0_w32)
        (broadcast S32x256 32#32)) 2147483647#32 reduces_S32x256_S256 rfl) shapeCasts_S256_S1x256) broadcasts_S1x256_S32x256))
    natLt_1_32)

/-- The scores with the marked pattern put out of the running. -/
def after (s : FVec F S32x256 .f32) : FVec F S32x256 .f32 :=
  subf s (mulf (mark s) (broadcast S32x256 (Named.named κ "out_of_the_running" 0x7149F2CA#32)))

/-- The scores of round `r`. -/
def round (s : FVec F S32x256 .f32) : ℕ → FVec F S32x256 .f32
  | 0 => s
  | r + 1 => after (round s r)

/-- The exponential of round `r`'s largest score less the largest of all. -/
def wexp (s : FVec F S32x256 .f32) (r : ℕ) : FVec F S1x256 .f32 := exp (subf (top (round s r)) (top s))

/-- Round `r`'s weight. -/
def wround (s : FVec F S32x256 .f32) (r : ℕ) : FVec F S1x256 .f32 :=
  mulf (wexp s r) (divf (broadcast S1x256 (Scalar.ofBits .f32 0x3F800000#32))
    (addf (addf (addf (wexp s 0) (wexp s 1)) (wexp s 2)) (wexp s 3)))

/-- Round `r`'s weight at the pattern it marks. -/
def wmark (s : FVec F S32x256 .f32) (r : ℕ) : FVec F S32x256 .f32 :=
  mulf (mark (round s r)) (broadcastTo S32x256 (wround s r) broadcasts_S1x256_S32x256)

/-- Every pattern's weight, zero where no round marked it. -/
def wdense (s : FVec F S32x256 .f32) : FVec F S32x256 .f32 :=
  addf (addf (addf (wmark s 0) (wmark s 1)) (wmark s 2)) (wmark s 3)

/-- The low-rank projections by all patterns. -/
def hmid (A : FVec F S1024x512 .f32) (cb : FVec F S512x256 .f32) : FVec F S1024x256 .f32 :=
  matmul dot_S1024x512_S512x256_S1024x256_1_0_0_1_n_n none (shapeCast S1024x512 A shapeCasts_S1024x512_S1024x512) cb
    (constant S1024x256 .f32 0x00000000#32)

/-- Every pattern's weight laid on its 32 rows. -/
def wrows (w : FVec F S32x256 .f32) : FVec F S1024x256 .f32 :=
  shapeCast S1024x256 (broadcastTo S32x32x256 (shapeCast S32x1x256 (shapeCast S32x1x256 w shapeCasts_S32x256_S32x1x256)
    shapeCasts_S32x1x256_S32x1x256) broadcasts_S32x1x256_S32x32x256) shapeCasts_S32x32x256_S1024x256

/-- The patterns' hidden layer. -/
def hpat (B : FVec F S1024x1024 .f32) (w : FVec F S32x256 .f32) (hm : FVec F S1024x256 .f32) : FVec F S1024x256 .f32 :=
  matmul dot_S1024x1024_S1024x256_S1024x256_0_0_1_1_n_n none (shapeCast S1024x1024 B shapeCasts_S1024x1024_S1024x1024)
    (mulf (wrows w) hm) (constant S1024x256 .f32 0x00000000#32)

/-- The plain hidden layer. -/
def hbase (Wup : FVec F S512x1024 .f32) (bup : FVec F S1024x1 .f32) (cb : FVec F S512x256 .f32) : FVec F S1024x256 .f32 :=
  addf (matmul dot_S512x1024_S512x256_S1024x256_0_0_1_1_n_n none Wup cb (constant S1024x256 .f32 0x00000000#32))
    (broadcastTo S1024x256 (shapeCast S1024x1 bup shapeCasts_S1024x1_S1024x1) broadcasts_S1024x1_S1024x256)

/-- The hidden layer. -/
def hid (hb hp : FVec F S1024x256 .f32) : FVec F S1024x256 .f32 :=
  addf (mulf (broadcast S1024x256 (Scalar.ofBits .f32 0x3DCCCCCD#32)) hb)
    (mulf (broadcast S1024x256 (Scalar.ofBits .f32 0x3F666666#32)) hp)

/-- The activation. -/
def gelu (h : FVec F S1024x256 .f32) : FVec F S1024x256 .f32 :=
  mulf (mulf (broadcast S1024x256 (Scalar.ofBits .f32 0x3F000000#32)) h)
    (addf (broadcast S1024x256 (Scalar.ofBits .f32 0x3F800000#32))
      (erf (mulf h (broadcast S1024x256 (Scalar.ofBits .f32 0x3F3504F3#32)))))

/-- The last dense layer. -/
def down (Wdn : FVec F S1024x512 .f32) (bdn : FVec F S1x512 .f32) (g : FVec F S1024x256 .f32) : FVec F S256x512 .f32 :=
  addf (matmul dot_S1024x256_S1024x512_S256x512_0_0_1_1_n_n none g Wdn (constant S256x512 .f32 0x00000000#32))
    (broadcastTo S256x512 (shapeCast S1x512 bdn shapeCasts_S1x512_S1x512) broadcasts_S1x512_S256x512)

/-- The block of results, from the patterns' scores and the neurons put together. -/
def ffn (s : FVec F S32x256 .f32) (cb : FVec F S512x256 .f32) (A : FVec F S1024x512 .f32) (B : FVec F S1024x1024 .f32)
    (Wup : FVec F S512x1024 .f32) (bup : FVec F S1024x1 .f32) (Wdn : FVec F S1024x512 .f32) (bdn : FVec F S1x512 .f32) :
    FVec F S256x512 .f32 :=
  down Wdn bdn (gelu (hid (hbase Wup bup cb) (hpat B (wdense s) (hmid A cb))))

/-- The block of results. -/
def blockOut (x0 : FVec F S256x4096 .f32) (x1 x2 : FVec F S256x512 .f32) (x3 : FVec F S8x256 .f32)
    (x4 : FVec F S512x512 .f32) (x5 : FVec F S512x1 .f32) (x6 : FVec F S512x512 .f32) (x7 : FVec F S512x1 .f32)
    (x8 : FVec F S512x512 .f32) (x9 : FVec F S512x1 .f32) (x10 : FVec F S32x512 .f32) (x11 : FVec F S1024x512 .f32)
    (x12 : FVec F S1024x1024 .f32) (x13 : FVec F S512x1024 .f32) (x14 : FVec F S1024x1 .f32) (x15 : FVec F S1024x512 .f32)
    (x16 : FVec F S1x512 .f32) : FVec F S256x512 .f32 :=
  ffn (pscore x10 (agg x0 x3 x4 x5 x6 x7 x8 x9) x2) (addf (turn x1) (agg x0 x3 x4 x5 x6 x7 x8 x9)) x11 x12 x13 x14 x15 x16

set_option maxHeartbeats 4000000 in
/-- The kernel leaves, at every grid point, the block of results of the point's blocks. -/
theorem outs_eq (m : (ℓ : Loc nD τ sig) → Buf (Elt F) ℓ) (c : Dev nD) (t : Fin grid0.N) :
    outsAt0 m c t = blockOut (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) := by
  unfold outsAt0
  frame_open
  simp (disch := decide) only [↓ View.readCov_skip, ↓ View.readCov_cons_toLoadRect, ↓ View.readCov_fill]
  frame_out
  rfl

end Cert.KProof.Block

end
-- ==== Proof.Consts.lean ====
/- The numbers that the printed float constants of both programs denote. -/
module

public import Idealize.ShloMosaic.PureOps.Ideal.Laws

@[expose] public section

noncomputable section

namespace Cert.KProof

open Idealize.ShloMosaic

/-- `0.125`. -/
theorem ofBits_eighth : Ideal.ofBits .f32 0x3E000000#32 = ((1 / 8 : ℝ) : EReal) := by
  simp [Ideal.ofBits, Ideal.ieee, -EReal.coe_mul]; norm_num

/-- `0.5`. -/
theorem ofBits_half : Ideal.ofBits .f32 0x3F000000#32 = ((1 / 2 : ℝ) : EReal) := by
  simp [Ideal.ofBits, Ideal.ieee, -EReal.coe_mul]; norm_num

/-- `8.0`. -/
theorem ofBits_eight : Ideal.ofBits .f32 0x41000000#32 = ((8 : ℝ) : EReal) := by
  simp [Ideal.ofBits, Ideal.ieee, -EReal.coe_mul]; norm_num

/-- `512.0`. -/
theorem ofBits_512 : Ideal.ofBits .f32 0x44000000#32 = ((512 : ℝ) : EReal) := by
  simp [Ideal.ofBits, Ideal.ieee, -EReal.coe_mul]; norm_num

/-- `1.0`. -/
theorem ofBits_one : Ideal.ofBits .f32 0x3F800000#32 = 1 := by
  simp [Ideal.ofBits, Ideal.ieee, -EReal.coe_mul]; norm_num

/-- Minus infinity. -/
theorem ofBits_bot : Ideal.ofBits .f32 0xFF800000#32 = ⊥ := by
  simp [Ideal.ofBits, Ideal.ieee]

/-- Infinity. -/
theorem ofBits_top : Ideal.ofBits .f32 0x7F800000#32 = ⊤ := by
  simp [Ideal.ofBits, Ideal.ieee]

end Cert.KProof

end
-- ==== Proof.Spec.lean ====
/- The mathematics of one token, over the extended reals: what the neurons' attention, the pattern scores and the
   feed-forward layer compute, written once. Both programs are read as these functions. -/
module

public import Idealize.ShloMosaic.PureOps.Ideal
public import Mathlib.Analysis.SpecialFunctions.Pow.Real

@[expose] public section

noncomputable section

namespace Cert.KProof

open Idealize.ShloMosaic

/-- The weights of the layer. -/
@[ext]
structure Net where
  Wq : Fin 512 → Fin 512 → EReal
  bq : Fin 512 → EReal
  Wk : Fin 512 → Fin 512 → EReal
  bk : Fin 512 → EReal
  Wv : Fin 512 → Fin 512 → EReal
  bv : Fin 512 → EReal
  pq : Fin 32 → Fin 512 → EReal
  A : Fin 32 → Fin 512 → Fin 32 → EReal
  B : Fin 32 → Fin 32 → Fin 1024 → EReal
  Wup : Fin 512 → Fin 1024 → EReal
  bup : Fin 1024 → EReal
  Wdn : Fin 1024 → Fin 512 → EReal
  bdn : Fin 512 → EReal

/-- What one token brings: its eight neurons, its own vector, its context and its neurons' weights. -/
@[ext]
structure Tok where
  nf : Fin 8 → Fin 512 → EReal
  x : Fin 512 → EReal
  ctx : Fin 512 → EReal
  w : Fin 8 → EReal

/-- The head that a feature belongs to. -/
def headOf (c : Fin 512) : Fin 8 := ⟨c.val / 64, by omega⟩

/-- Feature `r` of head `h`. -/
def lane (h : Fin 8) (r : Fin 64) : Fin 512 := ⟨h.val * 64 + r.val, by omega⟩

/-- The weights of a softmax: the exponentials of the distances to the largest score, over their sum. -/
def soft {n : ℕ} (s : Fin n → EReal) (j : Fin n) : EReal :=
  Ideal.exp (s j - Finset.univ.sup s) * (∑ k, Ideal.exp (s k - Finset.univ.sup s))⁻¹

namespace Net

variable (N : Net) (T : Tok)

/-- A dense layer. -/
def dense (W : Fin 512 → Fin 512 → EReal) (b n : Fin 512 → EReal) (c : Fin 512) : EReal := (∑ k, n k * W k c) + b c

/-- The score of neuron `j` for neuron `i` in head `h`. -/
def score (h i j : Fin 8) : EReal :=
  (∑ r : Fin 64, dense N.Wq N.bq (T.nf i) (lane h r) * dense N.Wk N.bk (T.nf j) (lane h r)) * ((1 / 8 : ℝ) : EReal)

/-- Neuron `i`'s gate at feature `c`: the attention of `c`'s head over the neurons' sigmoid values. -/
def gate (i : Fin 8) (c : Fin 512) : EReal :=
  ∑ j, soft (N.score T (headOf c) i) j * Ideal.logistic (dense N.Wv N.bv (T.nf j) c)

/-- The neurons put together: each times its gate and its weight. -/
def agg (c : Fin 512) : EReal := ∑ i, T.w i * (T.nf i c * N.gate T i c)

/-- The score of pattern `n`. -/
def pscore (n : Fin 32) : EReal :=
  (∑ c, N.agg T c * N.pq n c) * (((Real.sqrt 2048)⁻¹ : ℝ) : EReal) + (∑ c, T.ctx c * N.pq n c) * ((1 / 2 : ℝ) : EReal)

/-- The vector that the feed-forward layer is applied to. -/
def comb (c : Fin 512) : EReal := T.x c + N.agg T c

/-- The low-rank projection by pattern `n`. -/
def hmid (n r : Fin 32) : EReal := ∑ c, N.comb T c * N.A n c r

/-- The hidden layer of pattern `n`. -/
def hpat (n : Fin 32) (f : Fin 1024) : EReal := ∑ r, N.hmid T n r * N.B n r f

/-- The patterns picked, weighted by the softmax of their scores. -/
def hsel (σ : Fin 4 → Fin 32) (f : Fin 1024) : EReal :=
  ∑ k, soft (fun k => N.pscore T (σ k)) k * N.hpat T (σ k) f

/-- The hidden layer of the plain projection. -/
def hbase (f : Fin 1024) : EReal := (∑ c, N.comb T c * N.Wup c f) + N.bup f

/-- The hidden layer: a tenth (as printed) of the plain projection and nine tenths of the patterns'. -/
def hid (σ : Fin 4 → Fin 32) (f : Fin 1024) : EReal :=
  Ideal.ofBits .f32 0x3DCCCCCD#32 * N.hbase T f + Ideal.ofBits .f32 0x3F666666#32 * N.hsel T σ f

/-- The activation: half of `h` times one plus the error function of `h` times the printed root of a half. -/
def gelu (h : EReal) : EReal := ((1 / 2 : ℝ) : EReal) * h * (1 + Ideal.erf (h * Ideal.ofBits .f32 0x3F3504F3#32))

/-- The layer's result. -/
def out (σ : Fin 4 → Fin 32) (d : Fin 512) : EReal := (∑ f, gelu (N.hid T σ f) * N.Wdn f d) + N.bdn d

end Net

/-- Pattern `a` comes before pattern `b`: its score is larger, or they are equal and its number is smaller. -/
def Before (sc : Fin 32 → EReal) (a b : Fin 32) : Prop := sc b < sc a ∨ sc a = sc b ∧ a < b

/-- `σ` lists the four patterns that come before all others, in order. -/
structure Ranked (sc : Fin 32 → EReal) (σ : Fin 4 → Fin 32) : Prop where
  inj : Function.Injective σ
  ord : ∀ i j, i < j → Before sc (σ i) (σ j)
  dom : ∀ i b, (∀ j, σ j ≠ b) → Before sc (σ i) b

end Cert.KProof

end
-- ==== Proof.Finite.lean ====
/- Which quantities are finite, and what that gives: a softmax over finite scores may be divided out either way, and
   finite weights distribute over sums that need not be finite. -/
module

public import proofs.«01_k».proof.Proof.Spec
public import Idealize.ShloMosaic.PureOps.Ideal.Laws

@[expose] public section

noncomputable section

namespace Cert.KProof

open Idealize.ShloMosaic

/-- A finite extended real. -/
def Fin' (x : EReal) : Prop := ∃ r : ℝ, x = (r : EReal)

/-- A real number is finite. -/
theorem Fin'.coe (r : ℝ) : Fin' (r : EReal) := ⟨r, rfl⟩

/-- A sum of finite numbers is finite. -/
theorem Fin'.add {x y : EReal} : Fin' x → Fin' y → Fin' (x + y)
  | ⟨a, ha⟩, ⟨b, hb⟩ => ⟨a + b, by rw [ha, hb, EReal.coe_add]⟩

/-- A product of finite numbers is finite. -/
theorem Fin'.mul {x y : EReal} : Fin' x → Fin' y → Fin' (x * y)
  | ⟨a, ha⟩, ⟨b, hb⟩ => ⟨a * b, by rw [ha, hb, EReal.coe_mul]⟩

/-- A finite sum of finite numbers is finite. -/
theorem Fin'.sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- A finite number is not minus infinity. -/
theorem Fin'.ne_bot {x : EReal} : Fin' x → x ≠ ⊥
  | ⟨_, h⟩ => h ▸ EReal.coe_ne_bot _

/-- A sum of real numbers is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many finite scores is finite. -/
theorem Fin'.sup {n : ℕ} [NeZero n] {s : Fin n → EReal} (h : ∀ j, Fin' (s j)) : Fin' (Finset.univ.sup s) := by
  obtain ⟨i, -, hi⟩ := Finset.exists_mem_eq_sup Finset.univ Finset.univ_nonempty s
  exact hi ▸ h i

/-- The terms of a softmax over finite scores are positive real numbers. -/
theorem exp_sub_pos {n : ℕ} [NeZero n] {s : Fin n → EReal} (h : ∀ j, Fin' (s j)) :
    ∃ e : Fin n → ℝ, (∀ j, 0 < e j) ∧ ∀ j, Ideal.exp (s j - Finset.univ.sup s) = (e j : EReal) := by
  obtain ⟨m, hm⟩ := Fin'.sup h
  choose a ha using h
  refine ⟨fun j => Real.exp (a j - m), fun j => Real.exp_pos _, fun j => ?_⟩
  rw [hm, ha j, ← EReal.coe_sub, Ideal.exp_coe]

/-- The sum that a softmax over finite scores divides by is not zero. -/
theorem soft_den_ne {n : ℕ} [NeZero n] {s : Fin n → EReal} (h : ∀ j, Fin' (s j)) :
    ∑ k, Ideal.exp (s k - Finset.univ.sup s) ≠ 0 := by
  obtain ⟨e, he, hs⟩ := exp_sub_pos h
  simp only [hs]
  rw [← coe_sum, Ne, EReal.coe_eq_zero]
  exact (Finset.sum_pos (fun j _ => he j) Finset.univ_nonempty).ne'

/-- A softmax weight over finite scores is a finite number that is not negative. -/
theorem soft_fin {n : ℕ} [NeZero n] {s : Fin n → EReal} (h : ∀ j, Fin' (s j)) (j : Fin n) :
    Fin' (soft s j) ∧ 0 ≤ soft s j := by
  obtain ⟨e, he, hs⟩ := exp_sub_pos h
  have : soft s j = ((e j * (∑ k, e k)⁻¹ : ℝ) : EReal) := by
    simp only [soft, hs]
    rw [← coe_sum, ← EReal.coe_inv, ← EReal.coe_mul]
  rw [this]
  exact ⟨⟨_, rfl⟩, EReal.coe_nonneg.mpr
    (mul_nonneg (he j).le (inv_nonneg.mpr (Finset.sum_nonneg fun k _ => (he k).le)))⟩

/-- A softmax weight as the quotient by the sum. -/
theorem soft_eq_div {n : ℕ} [NeZero n] {s : Fin n → EReal} (h : ∀ j, Fin' (s j)) (j : Fin n) :
    Ideal.div (Ideal.exp (s j - Finset.univ.sup s)) (∑ k, Ideal.exp (s k - Finset.univ.sup s)) = soft s j := by
  rw [Ideal.div, if_neg (soft_den_ne h), soft]

/-- A softmax weight as the product with the sum's reciprocal. -/
theorem soft_eq_mul_div {n : ℕ} [NeZero n] {s : Fin n → EReal} (h : ∀ j, Fin' (s j)) (j : Fin n) :
    Ideal.exp (s j - Finset.univ.sup s) * Ideal.div 1 (∑ k, Ideal.exp (s k - Finset.univ.sup s)) = soft s j := by
  rw [Ideal.div, if_neg (soft_den_ne h), soft, one_mul]

/-- The logistic function of any argument is finite. -/
theorem logistic_fin (x : EReal) : Fin' (Ideal.logistic x) := by
  induction x with
  | bot => exact ⟨0, by rw [Ideal.logistic_bot]; simp⟩
  | coe r => exact ⟨_, Ideal.logistic_coe r⟩
  | top => exact ⟨1, by rw [Ideal.logistic_top]; simp⟩

/-- A finite weight that is not negative distributes over a sum, whatever is summed. -/
theorem mul_sum {ι : Type} (s : Finset ι) {c : EReal} (hc : Fin' c) (h0 : 0 ≤ c) (f : ι → EReal) :
    c * ∑ i ∈ s, f i = ∑ i ∈ s, c * f i := by
  classical
  obtain ⟨r, rfl⟩ := hc
  induction s using Finset.induction_on with
  | empty => simp
  | insert a s ha ih =>
    rw [Finset.sum_insert ha, Finset.sum_insert ha, EReal.left_distrib_of_nonneg_of_ne_top h0 (EReal.coe_ne_top r), ih]

/-- The weight laid on pattern `n` when pattern `σ k` is given weight `w k`, times anything: a sum over the `k`. -/
theorem sum_weights (σ : Fin 4 → Fin 32) {w : Fin 4 → EReal} (h0 : ∀ k, 0 ≤ w k) (H : Fin 32 → EReal) :
    ∑ n, (∑ k, if n = σ k then w k else 0) * H n = ∑ k, w k * H (σ k) := by
  have hd : ∀ (s : Finset (Fin 4)) (n : Fin 32), (∑ k ∈ s, if n = σ k then w k else 0) * H n
      = ∑ k ∈ s, if n = σ k then w k * H n else 0 := fun s n => by
    classical
    have hnn : ∀ k, 0 ≤ if n = σ k then w k else 0 := fun k => by split; exacts [h0 k, le_rfl]
    induction s using Finset.induction_on with
    | empty => simp
    | insert a s ha ih =>
      rw [Finset.sum_insert ha, Finset.sum_insert ha,
        EReal.right_distrib_of_nonneg (hnn a) (Finset.sum_nonneg fun k _ => hnn k), ih]
      congr 1
      split <;> simp
  simp only [hd]
  rw [Finset.sum_comm]
  refine Finset.sum_congr rfl fun k _ => ?_
  rw [Finset.sum_ite_eq' Finset.univ (σ k) fun n => w k * H n]
  simp

/-- What the scores are made of is finite. -/
structure Tame (N : Net) (T : Tok) : Prop where
  Wq : ∀ k c, Fin' (N.Wq k c)
  bq : ∀ c, Fin' (N.bq c)
  Wk : ∀ k c, Fin' (N.Wk k c)
  bk : ∀ c, Fin' (N.bk c)
  pq : ∀ n c, Fin' (N.pq n c)
  nf : ∀ i c, Fin' (T.nf i c)
  ctx : ∀ c, Fin' (T.ctx c)
  w : ∀ i, Fin' (T.w i)

namespace Tame

variable {N : Net} {T : Tok} (h : Tame N T)
include h

/-- The scores between neurons are finite. -/
theorem score (hd i j : Fin 8) : Fin' (N.score T hd i j) :=
  (Fin'.sum _ fun _ =>
    ((Fin'.sum _ fun _ => (h.nf _ _).mul (h.Wq _ _)).add (h.bq _)).mul
      ((Fin'.sum _ fun _ => (h.nf _ _).mul (h.Wk _ _)).add (h.bk _))).mul (Fin'.coe _)

/-- The neurons put together are finite. -/
theorem agg (c : Fin 512) : Fin' (N.agg T c) :=
  Fin'.sum _ fun i => (h.w i).mul ((h.nf i c).mul
    (Fin'.sum _ fun j => (soft_fin (h.score (headOf c) i) j).1.mul (logistic_fin _)))

/-- The patterns' scores are finite. -/
theorem pscore (n : Fin 32) : Fin' (N.pscore T n) :=
  ((Fin'.sum _ fun c => (h.agg c).mul (h.pq n c)).mul (Fin'.coe _)).add
    ((Fin'.sum _ fun c => (h.ctx c).mul (h.pq n c)).mul (Fin'.coe _))

end Tame

end Cert.KProof

end
-- ==== Proof.BlockAttn.lean ====
/- The kernel's block, read at a token: the attention of the neurons and the patterns' scores are the token's. -/
module

public import proofs.«01_k».proof.Proof.Block
public import proofs.«01_k».proof.Proof.Consts
public import proofs.«01_k».proof.Proof.Finite
public import Idealize.ShloMosaic.Lib.Pointwise
public import Idealize.ShloMosaic.Lib.ValueIdx

@[expose] public section

set_option maxRecDepth 16384

noncomputable section

namespace Cert.KProof.Block

open Cert.KernelIdeal Cert.KernelIdeal.Gen Idealize.ShloMosaic Idealize.ShloMosaic.TcCoe Idealize.SL.Sem

/-- Row `r` of pattern `n` among the rows of all patterns. -/
def prow (n r : Fin 32) : Fin 1024 := ⟨n.val * 32 + r.val, by omega⟩

/-- Feature `c` of neuron `i` among the features of all neurons. -/
def ncol (i : Fin 8) (c : Fin 512) : Fin 4096 := ⟨512 * i.val + c.val, by omega⟩

/-- The blocks of one grid point. -/
structure Blocks where
  x0 : FVec Ideal S256x4096 .f32
  x1 : FVec Ideal S256x512 .f32
  x2 : FVec Ideal S256x512 .f32
  x3 : FVec Ideal S8x256 .f32
  x4 : FVec Ideal S512x512 .f32
  x5 : FVec Ideal S512x1 .f32
  x6 : FVec Ideal S512x512 .f32
  x7 : FVec Ideal S512x1 .f32
  x8 : FVec Ideal S512x512 .f32
  x9 : FVec Ideal S512x1 .f32
  x10 : FVec Ideal S32x512 .f32
  x11 : FVec Ideal S1024x512 .f32
  x12 : FVec Ideal S1024x1024 .f32
  x13 : FVec Ideal S512x1024 .f32
  x14 : FVec Ideal S1024x1 .f32
  x15 : FVec Ideal S1024x512 .f32
  x16 : FVec Ideal S1x512 .f32

/-- The layer's weights in the blocks. -/
def Blocks.net (b : Blocks) : Net where
  Wq k c := b.x4 (ix2 k c)
  bq c := b.x5 (ix2 c 0)
  Wk k c := b.x6 (ix2 k c)
  bk c := b.x7 (ix2 c 0)
  Wv k c := b.x8 (ix2 k c)
  bv c := b.x9 (ix2 c 0)
  pq n c := b.x10 (ix2 n c)
  A n c r := b.x11 (ix2 (prow n r) c)
  B n r f := b.x12 (ix2 (prow n r) f)
  Wup c f := b.x13 (ix2 c f)
  bup f := b.x14 (ix2 f 0)
  Wdn f d := b.x15 (ix2 f d)
  bdn d := b.x16 (ix2 0 d)

/-- Token `l` in the blocks. -/
def Blocks.tok (b : Blocks) (l : Fin 256) : Tok where
  nf i c := b.x0 (ix2 l (ncol i c))
  x c := b.x1 (ix2 l c)
  ctx c := b.x2 (ix2 l c)
  w i := b.x3 (ix2 i l)

/-- Eight arrays added onto zero, at an index, are the sum of the eight numbers there. -/
theorem acc8_apply {s : Shape} (f : Fin 8 → FVec Ideal s .f32) (j : s.Idx) : acc8 f j = ∑ i, f i j := by
  pointwise [acc8]
  rw [Fin.sum_univ_eight]

/-- The sum of eight arrays at an index. -/
theorem sum8_apply {s : Shape} (f : Fin 8 → FVec Ideal s .f32) (j : s.Idx) : sum8 f j = ∑ i, f i j := by
  pointwise [sum8]
  rw [Fin.sum_univ_eight]

/-- The largest of eight arrays at an index. -/
theorem max8_apply {s : Shape} (f : Fin 8 → FVec Ideal s .f32) (j : s.Idx) : max8 f j = Finset.univ.sup fun i => f i j := by
  pointwise [max8]
  refine le_antisymm ?_ (Finset.sup_le fun i _ => ?_)
  · simp only [max_le_iff]
    refine ⟨⟨⟨⟨⟨⟨⟨?_, ?_⟩, ?_⟩, ?_⟩, ?_⟩, ?_⟩, ?_⟩, ?_⟩ <;>
      exact Finset.le_sup (f := fun i => f i j) (Finset.mem_univ _)
  · fin_cases i <;> simp [le_max_iff]

/-- An array read back from its buffer is the array. -/
theorem kept_eq (v : FVec Ideal S512x256 .f32) : kept v = v := by
  funext j
  pointwise [kept]

/-- A transposed block at an index. -/
theorem turn_apply (v : FVec Ideal S256x512 .f32) (c : Fin 512) (l : Fin 256) : turn v (ix2 c l) = v (ix2 l c) := by
  pointwise [turn]

/-- Neuron `i` of a block of tokens, features down the rows. -/
theorem neuron_apply (x : FVec Ideal S256x4096 .f32) (i : Fin 8) (c : Fin 512) (l : Fin 256) :
    neuron x i (ix2 c l) = x (ix2 l (ncol i c)) := by
  unfold ncol
  pointwise [neuron, turn]

/-- A dense layer at a feature and a token. -/
theorem dense_apply (W : FVec Ideal S512x512 .f32) (b : FVec Ideal S512x1 .f32) (n : FVec Ideal S512x256 .f32)
    (c : Fin 512) (l : Fin 256) :
    dense W b n (ix2 c l) = Net.dense (fun k c => W (ix2 k c)) (fun c => b (ix2 c 0)) (fun k => n (ix2 k l)) c := by
  pointwise [dense]
  simp only [Net.dense, mul_comm]

/-- A score of one neuron against another at a head and a token. -/
theorem score_apply (q k : FVec Ideal S512x256 .f32) (h : Fin 8) (l : Fin 256) :
    score q k (ix2 h l) = (∑ r : Fin 64, q (ix2 (lane h r) l) * k (ix2 (lane h r) l)) * ((1 / 8 : ℝ) : EReal) := by
  pointwise [score]
  rw [ofBits_eighth]
  rfl

/-- A number per head, at a feature: that of the head the feature lies in. -/
theorem spread_apply (a : FVec Ideal S8x256 .f32) (c : Fin 512) (l : Fin 256) :
    spread a (ix2 c l) = a (ix2 (headOf c) l) := by
  pointwise [spread]
  rfl

/-- The attention weights are the softmax of the scores. -/
theorem attn_apply (s : Fin 8 → FVec Ideal S8x256 .f32) (y : S8x256.Idx) (hs : ∀ j, Fin' (s j y)) (j : Fin 8) :
    attn s j y = soft (fun j => s j y) j := by
  rw [← soft_eq_mul_div hs]
  pointwise [attn]
  simp only [max8_apply, sum8_apply]
  pointwise [max8_apply]

/-- A neuron's weight, the same at every feature. -/
theorem weight_apply (w : FVec Ideal S8x256 .f32) (i : Fin 8) (c : Fin 512) (l : Fin 256) :
    weight w i (ix2 c l) = w (ix2 i l) := by
  pointwise [weight]

/-- The score of a pattern at a token. -/
theorem pscore_apply (pq : FVec Ideal S32x512 .f32) (a : FVec Ideal S512x256 .f32) (ctx : FVec Ideal S256x512 .f32)
    (n : Fin 32) (l : Fin 256) :
    pscore pq a ctx (ix2 n l) = (∑ c, a (ix2 c l) * pq (ix2 n c)) * (((Real.sqrt 2048)⁻¹ : ℝ) : EReal)
      + (∑ c, ctx (ix2 l c) * pq (ix2 n c)) * ((1 / 2 : ℝ) : EReal) := by
  pointwise [pscore]
  rw [IdealRules.named_const.ideal_named_scalar _ _ _ _ rfl, ofBits_half]
  simp only [mul_comm]

namespace Blocks

variable (b : Blocks)

/-- The neurons put together, as the kernel computes them from the blocks. -/
def agg : FVec Ideal S512x256 .f32 := Block.agg b.x0 b.x3 b.x4 b.x5 b.x6 b.x7 b.x8 b.x9

/-- The patterns' scores, as the kernel computes them from the blocks. -/
def scores : FVec Ideal S32x256 .f32 := Block.pscore b.x10 b.agg b.x2

variable {b} {l : Fin 256} (h : Tame b.net (b.tok l))
include h

/-- The attention scores are the token's. -/
theorem score_apply (i j : Fin 8) (hd : Fin 8) :
    Block.score (dense b.x4 b.x5 (kept (neuron b.x0 i))) (kept (dense b.x6 b.x7 (neuron b.x0 j))) (ix2 hd l)
      = b.net.score (b.tok l) hd i j := by
  simp only [Block.score_apply, kept_eq, dense_apply, neuron_apply]
  rfl

/-- The neurons put together are the token's. -/
theorem agg_apply (c : Fin 512) : b.agg (ix2 c l) = b.net.agg (b.tok l) c := by
  rw [agg, Block.agg, acc8_apply]
  refine Finset.sum_congr rfl fun i _ => ?_
  have hg : gate (fun j => Block.score (dense b.x4 b.x5 (kept (neuron b.x0 i))) (kept (dense b.x6 b.x7 (neuron b.x0 j))))
      (fun j => kept (logistic (dense b.x8 b.x9 (neuron b.x0 j)))) (ix2 c l) = b.net.gate (b.tok l) i c := by
    rw [gate, acc8_apply]
    refine Finset.sum_congr rfl fun j _ => ?_
    have hl : kept (logistic (dense b.x8 b.x9 (neuron b.x0 j))) (ix2 c l)
        = Ideal.logistic (Net.dense b.net.Wv b.net.bv ((b.tok l).nf j) c) := by
      rw [kept_eq]
      pointwise [dense_apply, neuron_apply]
      rfl
    pointwise [spread_apply]
    rw [hl, attn_apply _ _ (fun j => by rw [score_apply h]; exact h.score _ _ _)]
    simp only [score_apply h]
  pointwise [weight_apply]
  rw [hg, kept_eq, neuron_apply, mul_assoc]
  rfl

/-- The patterns' scores are the token's. -/
theorem scores_apply (n : Fin 32) : b.scores (ix2 n l) = b.net.pscore (b.tok l) n := by
  rw [scores, Block.pscore_apply]
  simp only [agg_apply h]
  rfl

end Blocks

end Cert.KProof.Block

end
-- ==== Proof.Rank.lean ====
/- Four rounds of "take the first of the largest, then put it out of the running" list the four patterns that come before
   all others, in order. -/
module

public import proofs.«01_k».proof.Proof.Spec

@[expose] public section

noncomputable section

namespace Cert.KProof

/-- Some pattern has the largest score. -/
theorem exists_largest (w : Fin 32 → EReal) : (Finset.univ.filter fun n => w n = Finset.univ.sup w).Nonempty := by
  obtain ⟨i, hi, h⟩ := Finset.exists_mem_eq_sup Finset.univ Finset.univ_nonempty w
  exact ⟨i, Finset.mem_filter.mpr ⟨hi, h.symm⟩⟩

/-- The first pattern with the largest score. -/
def pick (w : Fin 32 → EReal) : Fin 32 := (Finset.univ.filter fun n => w n = Finset.univ.sup w).min' (exists_largest w)

/-- The scores after a round: the pattern picked is out of the running. -/
def strike (w : Fin 32 → EReal) (n : Fin 32) : EReal := if n = pick w then ⊥ else w n

/-- The scores after `r` rounds. -/
def running (sc : Fin 32 → EReal) : ℕ → Fin 32 → EReal
  | 0 => sc
  | r + 1 => strike (running sc r)

/-- The pattern that round `r` picks. -/
def picked (sc : Fin 32 → EReal) (r : ℕ) : Fin 32 := pick (running sc r)

/-- The picked entry is the largest. -/
theorem pick_eq (w : Fin 32 → EReal) : w (pick w) = Finset.univ.sup w :=
  (Finset.mem_filter.mp (Finset.min'_mem _ (exists_largest w))).2

/-- No earlier entry is as large as the picked one. -/
theorem pick_le (w : Fin 32 → EReal) {n : Fin 32} (h : w n = Finset.univ.sup w) : pick w ≤ n :=
  Finset.min'_le _ _ (Finset.mem_filter.mpr ⟨Finset.mem_univ n, h⟩)

variable {sc : Fin 32 → EReal}

/-- After `r` rounds the patterns picked so far hold `⊥` and the others their scores. -/
theorem running_eq (sc : Fin 32 → EReal) (r : ℕ) (n : Fin 32) :
    ((∃ i < r, picked sc i = n) → running sc r n = ⊥) ∧ ((∀ i < r, picked sc i ≠ n) → running sc r n = sc n) := by
  induction r with
  | zero => exact ⟨fun ⟨i, h, _⟩ => absurd h (Nat.not_lt_zero i), fun _ => rfl⟩
  | succ r ih =>
    change (_ → (if n = picked sc r then ⊥ else running sc r n) = ⊥) ∧
      (_ → (if n = picked sc r then ⊥ else running sc r n) = sc n)
    refine ⟨fun ⟨i, hi, h⟩ => ?_, fun h => ?_⟩
    · split
      · rfl
      · rename_i hn
        refine ih.1 ⟨i, lt_of_le_of_ne (Nat.lt_succ_iff.mp hi) fun e => hn ?_, h⟩
        rw [← h, e]
    · rw [if_neg fun e => h r (Nat.lt_succ_self r) e.symm]
      exact ih.2 fun i hi => h i (Nat.lt_succ_of_lt hi)

/-- Before the last pattern is picked, some pattern is still in the running. -/
theorem exists_running (sc : Fin 32 → EReal) {r : ℕ} (hr : r < 32) : ∃ n, ∀ i < r, picked sc i ≠ n := by
  by_contra hc
  push Not at hc
  have h : (Finset.univ : Finset (Fin 32)) ⊆ (Finset.range r).image (picked sc) := fun n _ => by
    obtain ⟨i, hi, he⟩ := hc n
    exact Finset.mem_image.mpr ⟨i, Finset.mem_range.mpr hi, he⟩
  have := (Finset.card_le_card h).trans Finset.card_image_le
  simp at this
  omega

/-- A round picks no pattern twice. -/
theorem picked_ne (hsc : ∀ n, sc n ≠ ⊥) {i r : ℕ} (hi : i < r) (hr : r < 32) : picked sc i ≠ picked sc r := fun e => by
  obtain ⟨n, hn⟩ := exists_running sc hr
  have h₁ : running sc r (picked sc r) = ⊥ := (running_eq sc r _).1 ⟨i, hi, e⟩
  have h₂ : running sc r n = sc n := (running_eq sc r n).2 hn
  have h₃ : running sc r n ≤ Finset.univ.sup (running sc r) := Finset.le_sup (Finset.mem_univ n)
  rw [← pick_eq (running sc r), ← picked, h₁, h₂] at h₃
  exact hsc n (le_bot_iff.mp h₃)

/-- The largest score of a round is the score of the pattern it picks. -/
theorem sup_running (hsc : ∀ n, sc n ≠ ⊥) {r : ℕ} (hr : r < 32) : Finset.univ.sup (running sc r) = sc (picked sc r) := by
  rw [← pick_eq]
  exact (running_eq sc r _).2 fun i hi => picked_ne hsc hi hr

/-- The pattern that a round picks comes before every pattern not picked so far. -/
theorem picked_before (hsc : ∀ n, sc n ≠ ⊥) {r : ℕ} (hr : r < 32) {b : Fin 32} (hb : ∀ i ≤ r, picked sc i ≠ b) :
    Before sc (picked sc r) b := by
  have hw : running sc r b = sc b := (running_eq sc r b).2 fun i hi => hb i hi.le
  have hle : sc b ≤ sc (picked sc r) := by
    rw [← hw, ← sup_running hsc hr]
    exact Finset.le_sup (Finset.mem_univ b)
  rcases hle.lt_or_eq with h | h
  · exact .inl h
  · refine .inr ⟨h.symm, lt_of_le_of_ne (pick_le _ ?_) (hb r le_rfl)⟩
    rw [hw, h, sup_running hsc hr]

/-- Four rounds list the four patterns that come before all others. -/
theorem ranked_picked (hsc : ∀ n, sc n ≠ ⊥) : Ranked sc fun k : Fin 4 => picked sc k.val where
  inj i j h := by
    rcases lt_trichotomy i j with hlt | he | hlt
    · exact absurd h (picked_ne hsc hlt (by omega))
    · exact he
    · exact absurd h.symm (picked_ne hsc hlt (by omega))
  ord i j hij := picked_before hsc (by omega) fun r hr => picked_ne hsc (by omega) (by omega)
  dom i b hb := picked_before hsc (by omega) fun r hr => hb ⟨r, by omega⟩

end Cert.KProof

end
-- ==== Proof.BlockPick.lean ====
/- The kernel's four rounds, read at a token: they pick the patterns that `picked` picks, and lay the softmax of the picked
   scores on them. -/
module

public import proofs.«01_k».proof.Proof.Block
public import proofs.«01_k».proof.Proof.Consts
public import proofs.«01_k».proof.Proof.Finite
public import proofs.«01_k».proof.Proof.Rank
public import Idealize.ShloMosaic.Lib.Pointwise
public import Idealize.ShloMosaic.Lib.ValueIdx

@[expose] public section

set_option maxRecDepth 16384

noncomputable section

namespace Cert.KProof.Block

open Cert.KernelIdeal Cert.KernelIdeal.Gen Idealize.ShloMosaic Idealize.ShloMosaic.TcCoe Idealize.SL.Sem

/-- The smaller of two small words is the word of the smaller number. -/
theorem minsi_ofNat {a b : ℕ} (ha : a < 2 ^ 31) (hb : b < 2 ^ 31) :
    IntOp.minsi (BitVec.ofNat 32 a) (BitVec.ofNat 32 b) = BitVec.ofNat 32 (min a b) := by
  have ia : (BitVec.ofNat 32 a).toInt = a := by
    rw [BitVec.toInt_eq_toNat_of_lt, BitVec.toNat_ofNat, Nat.mod_eq_of_lt] <;> simp <;> omega
  have ib : (BitVec.ofNat 32 b).toInt = b := by
    rw [BitVec.toInt_eq_toNat_of_lt, BitVec.toNat_ofNat, Nat.mod_eq_of_lt] <;> simp <;> omega
  rw [IntOp.minsi, BitVec.slt, ia, ib]
  by_cases h : a < b
  · rw [if_pos (by simpa using h), min_eq_left h.le]
  · rw [if_neg (by simpa using h), min_eq_right (Nat.le_of_not_lt h)]

/-- The smallest of small words is the word of the smallest number. -/
theorem fold_minsi {ι : Type} (s : Finset ι) (f : ι → ℕ) (hf : ∀ i, f i < 2 ^ 31) :
    s.fold IntOp.minsi 2147483647#32 (fun i => BitVec.ofNat 32 (f i)) = BitVec.ofNat 32 (s.fold min 2147483647 f)
      ∧ s.fold min 2147483647 f < 2 ^ 31 := by
  classical
  induction s using Finset.induction_on with
  | empty => simp
  | insert a s ha ih =>
    rw [Finset.fold_insert ha, Finset.fold_insert ha, ih.1, minsi_ofNat (hf a) ih.2]
    exact ⟨rfl, (min_le_left _ _).trans_lt (hf a)⟩

/-- The smallest number of a pattern with the largest score. -/
theorem fold_pick (w : Fin 32 → EReal) :
    Finset.univ.fold min 2147483647 (fun n : Fin 32 => if w n = Finset.univ.sup w then n.val else 32) = (pick w).val := by
  refine le_antisymm ?_ ?_
  · rw [Finset.fold_min_le]
    exact .inr ⟨pick w, Finset.mem_univ _, by rw [if_pos (pick_eq w)]⟩
  · rw [Finset.le_fold_min]
    refine ⟨by omega, fun n _ => ?_⟩
    split
    · rename_i h
      exact pick_le w h
    · omega

/-- A token's scores. -/
def col (s : FVec Ideal S32x256 .f32) (l : Fin 256) (n : Fin 32) : EReal := s (ix2 n l)

/-- The largest score of a token. -/
theorem top_apply (s : FVec Ideal S32x256 .f32) (l : Fin 256) : top s (ix2 0 l) = Finset.univ.sup (col s l) := by
  pointwise [top]
  rw [ofBits_bot]
  rfl

/-- The mark is one at the pattern picked. -/
theorem mark_apply (s : FVec Ideal S32x256 .f32) (n : Fin 32) (l : Fin 256) :
    mark s (ix2 n l) = if n = pick (col s l) then 1 else 0 := by
  pointwise [mark]
  have hf : (fun x : Fin 32 => if s (ix2 x l) = top s (ix2 0 l) then BitVec.ofNat 32 x.val else 32#32)
      = fun x : Fin 32 => BitVec.ofNat 32 (if col s l x = Finset.univ.sup (col s l) then x.val else 32) := by
    funext x
    rw [top_apply]
    change (if col s l x = _ then _ else _) = _
    split <;> rfl
  rw [hf, (fold_minsi Finset.univ _ fun x => by split <;> omega).1, fold_pick]
  have he : (BitVec.ofNat 32 n.val == BitVec.ofNat 32 (pick (col s l)).val) = decide (n = pick (col s l)) := by
    rw [Bool.eq_iff_iff, beq_iff_eq, decide_eq_true_iff]
    refine ⟨fun e => Fin.ext ?_, fun e => by rw [e]⟩
    have := congrArg BitVec.toNat e
    rw [BitVec.toNat_ofNat, BitVec.toNat_ofNat, Nat.mod_eq_of_lt (by omega), Nat.mod_eq_of_lt (by omega)] at this
    exact this
  simp only [IntOp.cmpi, he]
  by_cases h : n = pick (col s l)
  · rw [decide_eq_true h, if_pos h]
    change (((1#32 : BitVec 32).toInt : ℝ) : EReal) = 1
    simp
  · rw [decide_eq_false h, if_neg h]
    change (((0#32 : BitVec 32).toInt : ℝ) : EReal) = 0
    simp

/-- A round's end is a strike of the pattern picked. -/
theorem after_apply (s : FVec Ideal S32x256 .f32) (l : Fin 256) : col (after s) l = strike (col s l) := by
  funext n
  change after s (ix2 n l) = _
  pointwise [after, mark_apply]
  rw [IdealRules.named_const.ideal_named_scalar _ _ _ _ rfl, strike]
  split
  · rw [one_mul, EReal.sub_top]
  · rw [zero_mul, sub_zero]
    rfl

/-- The scores of round `r` are the scores after `r` rounds. -/
theorem round_apply (s : FVec Ideal S32x256 .f32) (l : Fin 256) (r : ℕ) : col (round s r) l = running (col s l) r := by
  induction r with
  | zero => rfl
  | succ r ih => rw [round, after_apply, ih, running]

section

variable {s : FVec Ideal S32x256 .f32} {l : Fin 256} (hs : ∀ n, Fin' (col s l n))
include hs

/-- The scores picked. -/
theorem top_round {r : ℕ} (hr : r < 32) : top (round s r) (ix2 0 l) = col s l (picked (col s l) r) := by
  rw [top_apply, round_apply, sup_running (fun n => (hs n).ne_bot) hr]

/-- The largest score picked is the largest of all. -/
theorem sup_picked : Finset.univ.sup (fun k : Fin 4 => col s l (picked (col s l) k.val)) = Finset.univ.sup (col s l) := by
  refine le_antisymm (Finset.sup_le fun k _ => Finset.le_sup (Finset.mem_univ _)) ?_
  rw [← pick_eq (col s l)]
  exact Finset.le_sup (f := fun k : Fin 4 => col s l (picked (col s l) k.val)) (Finset.mem_univ 0)

/-- The exponential of the score of pick `r` relative to the first. -/
theorem wexp_apply {r : ℕ} (hr : r < 32) :
    wexp s r (ix2 0 l) = Ideal.exp (col s l (picked (col s l) r)
      - Finset.univ.sup fun k : Fin 4 => col s l (picked (col s l) k.val)) := by
  rw [sup_picked hs]
  pointwise [wexp]
  rw [top_round hs hr, top_apply]

/-- The rounds' weights are the softmax of the scores picked. -/
theorem wround_apply (k : Fin 4) :
    wround s k.val (ix2 0 l) = soft (fun k : Fin 4 => col s l (picked (col s l) k.val)) k := by
  rw [← soft_eq_mul_div fun k => hs _, Fin.sum_univ_four]
  pointwise [wround]
  simp only [wexp_apply hs (show k.val < 32 by omega), wexp_apply hs (show 0 < 32 by omega),
    wexp_apply hs (show 1 < 32 by omega), wexp_apply hs (show 2 < 32 by omega), wexp_apply hs (show 3 < 32 by omega)]

/-- The mark of pick `k`: one at the pattern picked, zero elsewhere. -/
theorem wmark_apply (k : Fin 4) (n : Fin 32) :
    wmark s k.val (ix2 n l) = if n = picked (col s l) k.val then
      soft (fun k : Fin 4 => col s l (picked (col s l) k.val)) k else 0 := by
  pointwise [wmark, mark_apply]
  rw [wround_apply hs, round_apply]
  change (if n = picked (col s l) k.val then (1 : EReal) else 0) * _ = _
  split
  · rw [one_mul]
  · rw [zero_mul]

/-- Every pattern's weight: the softmax weight of the round that picked it. -/
theorem wdense_apply (n : Fin 32) :
    wdense s (ix2 n l) = ∑ k : Fin 4, if n = picked (col s l) k.val then
      soft (fun k : Fin 4 => col s l (picked (col s l) k.val)) k else 0 := by
  rw [Fin.sum_univ_four, ← wmark_apply hs 0, ← wmark_apply hs 1, ← wmark_apply hs 2, ← wmark_apply hs 3]
  pointwise [wdense]

end

end Cert.KProof.Block

end
-- ==== Proof.BlockOut.lean ====
/- The kernel's block of results, read at a token: the layer's result with the patterns that four rounds pick. -/
module

public import proofs.«01_k».proof.Proof.BlockAttn
public import proofs.«01_k».proof.Proof.BlockPick

@[expose] public section

set_option maxRecDepth 16384

noncomputable section

namespace Cert.KProof.Block

open Cert.KernelIdeal Cert.KernelIdeal.Gen Idealize.ShloMosaic Idealize.ShloMosaic.TcCoe Idealize.SL.Sem

/-- A sum over the rows of all patterns, pattern by pattern. -/
theorem sum_prow (f : Fin 1024 → EReal) : ∑ x, f x = ∑ n : Fin 32, ∑ r : Fin 32, f (prow n r) := by
  rw [← (finProdFinEquiv (m := 32) (n := 32)).sum_comp, Fintype.sum_prod_type]
  refine Finset.sum_congr rfl fun n _ => Finset.sum_congr rfl fun r _ => congrArg f (Fin.ext ?_)
  simp only [finProdFinEquiv, Equiv.coe_fn_mk, prow]
  omega

/-- The first matrices of all patterns applied to a token, at a row. -/
theorem hmid_apply (A : FVec Ideal S1024x512 .f32) (cb : FVec Ideal S512x256 .f32) (x : Fin 1024) (l : Fin 256) :
    hmid A cb (ix2 x l) = ∑ c, cb (ix2 c l) * A (ix2 x c) := by
  pointwise [hmid]
  simp only [mul_comm]

/-- A pattern's weight at each of its rows. -/
theorem wrows_apply (w : FVec Ideal S32x256 .f32) (n r : Fin 32) (l : Fin 256) :
    wrows w (ix2 (prow n r) l) = w (ix2 n l) := by
  have e : (⟨(prow n r).val / 32, by omega⟩ : Fin 32) = n := Fin.ext (by simp only [prow]; omega)
  rw [← congrArg (fun n => w (ix2 n l)) e]
  pointwise [wrows]

/-- The second matrices applied to the weighted rows: a sum over the patterns and their rows. -/
theorem hpat_apply (B : FVec Ideal S1024x1024 .f32) (w : FVec Ideal S32x256 .f32) (hm : FVec Ideal S1024x256 .f32)
    (f : Fin 1024) (l : Fin 256) :
    hpat B w hm (ix2 f l) = ∑ n, ∑ r, w (ix2 n l) * (hm (ix2 (prow n r) l) * B (ix2 (prow n r) f)) := by
  pointwise [hpat]
  rw [sum_prow]
  simp only [wrows_apply]
  exact Finset.sum_congr rfl fun n _ => Finset.sum_congr rfl fun r _ => by rw [mul_comm, mul_assoc]

/-- The plain projection at a token. -/
theorem hbase_apply (W : FVec Ideal S512x1024 .f32) (b : FVec Ideal S1024x1 .f32) (cb : FVec Ideal S512x256 .f32)
    (f : Fin 1024) (l : Fin 256) :
    hbase W b cb (ix2 f l) = (∑ c, cb (ix2 c l) * W (ix2 c f)) + b (ix2 f 0) := by
  pointwise [hbase]
  simp only [mul_comm]

/-- The hidden layer at an index: a tenth of the plain projection and nine tenths of the patterns. -/
theorem hid_apply (hb hp : FVec Ideal S1024x256 .f32) (j : S1024x256.Idx) :
    hid hb hp j = Ideal.ofBits .f32 0x3DCCCCCD#32 * hb j + Ideal.ofBits .f32 0x3F666666#32 * hp j := by
  pointwise [hid]

/-- The activation at an index. -/
theorem gelu_apply (h : FVec Ideal S1024x256 .f32) (j : S1024x256.Idx) : gelu h j = Net.gelu (h j) := by
  pointwise [gelu]
  rw [ofBits_half]
  rfl

/-- The last dense layer at a token. -/
theorem down_apply (W : FVec Ideal S1024x512 .f32) (b : FVec Ideal S1x512 .f32) (g : FVec Ideal S1024x256 .f32)
    (l : Fin 256) (d : Fin 512) : down W b g (ix2 l d) = (∑ f, g (ix2 f l) * W (ix2 f d)) + b (ix2 0 d) := by
  pointwise [down]

namespace Blocks

/-- The block of results, as the kernel computes it from the blocks. -/
def out (b : Blocks) : FVec Ideal S256x512 .f32 :=
  blockOut b.x0 b.x1 b.x2 b.x3 b.x4 b.x5 b.x6 b.x7 b.x8 b.x9 b.x10 b.x11 b.x12 b.x13 b.x14 b.x15 b.x16

variable {b : Blocks} {l : Fin 256} (h : Tame b.net (b.tok l))
include h

/-- The vector that the feed-forward layer is applied to is the token's. -/
theorem comb_apply (c : Fin 512) : addf (turn b.x1) b.agg (ix2 c l) = b.net.comb (b.tok l) c := by
  pointwise [turn_apply]
  rw [agg_apply h]
  rfl

/-- The patterns' scores of token `l`, as a column. -/
theorem col_scores : col b.scores l = b.net.pscore (b.tok l) := funext fun n => scores_apply h n

/-- The block of results at a token is the layer's result there. -/
theorem out_apply (d : Fin 512) :
    b.out (ix2 l d) = b.net.out (b.tok l) (fun k => picked (b.net.pscore (b.tok l)) k.val) d := by
  change down b.x15 b.x16 (gelu (hid (hbase b.x13 b.x14 (addf (turn b.x1) b.agg))
    (hpat b.x12 (wdense b.scores) (hmid b.x11 (addf (turn b.x1) b.agg))))) (ix2 l d) = _
  have hf : ∀ n, Fin' (col b.scores l n) := fun n => by rw [col_scores h]; exact h.pscore n
  have hp : ∀ f, hpat b.x12 (wdense b.scores) (hmid b.x11 (addf (turn b.x1) b.agg)) (ix2 f l)
      = b.net.hsel (b.tok l) (fun k => picked (b.net.pscore (b.tok l)) k.val) f := fun f => by
    rw [hpat_apply]
    have hw : ∀ n, Fin' (wdense b.scores (ix2 n l)) ∧ 0 ≤ wdense b.scores (ix2 n l) := fun n => by
      rw [wdense_apply hf]
      refine ⟨Fin'.sum _ fun k => ?_, Finset.sum_nonneg fun k _ => ?_⟩ <;> split
      exacts [(soft_fin (fun k => hf _) k).1, ⟨0, by simp⟩, (soft_fin (fun k => hf _) k).2, le_rfl]
    rw [Finset.sum_congr rfl fun n _ => (mul_sum Finset.univ (hw n).1 (hw n).2 _).symm]
    simp only [wdense_apply hf, hmid_apply, comb_apply h]
    rw [col_scores h]
    exact sum_weights (fun k => picked (b.net.pscore (b.tok l)) k.val)
      (fun k => (soft_fin (s := fun k : Fin 4 => b.net.pscore (b.tok l) (picked (b.net.pscore (b.tok l)) k.val))
        (fun k => h.pscore _) k).2)
      fun n => ∑ r, (∑ c, b.net.comb (b.tok l) c * b.net.A n c r) * b.net.B n r f
  rw [down_apply]
  simp only [gelu_apply, hid_apply, hp, hbase_apply, comb_apply h]
  rfl

end Blocks

end Cert.KProof.Block

end
-- ==== Proof.RefAttn.lean ====
/- The reference, read at a token: the attention of the neurons and the patterns' scores are the token's. -/
module

public import proofs.«01_k».proof.Proof.Gen.ReferenceIdeal.Read
public import proofs.«01_k».proof.Proof.Consts
public import proofs.«01_k».proof.Proof.Finite
public import Idealize.ShloMosaic.Lib.Pointwise
public import Idealize.ShloMosaic.Lib.ValueIdx

@[expose] public section

set_option maxRecDepth 16384

noncomputable section

namespace Cert.KProof

open Cert.ReferenceIdeal Cert.ReferenceIdeal.Gen Cert.ReferenceIdeal.Read Idealize.ShloMosaic Idealize.ShloMosaic.TcCoe Idealize.SL.Sem

/-- The arguments of the layer. -/
@[ext]
structure Args where
  x0 : FVec Ideal S32x16x512 .f32
  x1 : FVec Ideal S32x16x8x512 .f32
  x2 : FVec Ideal S32x16x8 .f32
  x3 : FVec Ideal S32x16x512 .f32
  x4 : FVec Ideal S512x512 .f32
  x5 : FVec Ideal S512 .f32
  x6 : FVec Ideal S512x512 .f32
  x7 : FVec Ideal S512 .f32
  x8 : FVec Ideal S512x512 .f32
  x9 : FVec Ideal S512 .f32
  x10 : FVec Ideal S32x512 .f32
  x11 : FVec Ideal S32x512x32 .f32
  x12 : FVec Ideal S32x32x1024 .f32
  x13 : FVec Ideal S512x1024 .f32
  x14 : FVec Ideal S1024 .f32
  x15 : FVec Ideal S1024x512 .f32
  x16 : FVec Ideal S512 .f32

namespace Args

variable (a : Args)

/-- The layer's weights in the arguments. -/
def net : Net where
  Wq k c := a.x4 (ix2 k c)
  bq c := a.x5 (ix1 c)
  Wk k c := a.x6 (ix2 k c)
  bk c := a.x7 (ix1 c)
  Wv k c := a.x8 (ix2 k c)
  bv c := a.x9 (ix1 c)
  pq n c := a.x10 (ix2 n c)
  A n c r := a.x11 (ix3 n c r)
  B n r f := a.x12 (ix3 n r f)
  Wup c f := a.x13 (ix2 c f)
  bup f := a.x14 (ix1 f)
  Wdn f d := a.x15 (ix2 f d)
  bdn d := a.x16 (ix1 d)

/-- Token `s` of sequence `b`. -/
def tok (b : Fin 32) (s : Fin 16) : Tok where
  nf i c := a.x1 (ix4 b s i c)
  x c := a.x0 (ix3 b s c)
  ctx c := a.x3 (ix3 b s c)
  w i := a.x2 (ix3 b s i)

/-- The token's place among all tokens. -/
def flat (b : Fin 32) (s : Fin 16) : Fin 512 := ⟨b.val * 16 + s.val, by omega⟩

variable (b : Fin 32) (s : Fin 16)

/-- The neurons over the flat list of tokens. -/
theorem nf_apply (i : Fin 8) (c : Fin 512) : val_main_v0 (F := Ideal) a.x1 (ix3 (flat b s) i c) = (a.tok b s).nf i c := by
  pointwise [val_main_v0]
  have h1 : (⟨(flat b s).val / 16, by omega⟩ : Fin 32) = b := Fin.ext (by simp only [flat]; omega)
  have h2 : (⟨(flat b s).val % 16, by omega⟩ : Fin 16) = s := Fin.ext (by simp only [flat]; omega)
  rw [h1, h2]
  rfl

/-- The queries. -/
theorem q_apply (h i : Fin 8) (r : Fin 64) :
    val_main_v6 (F := Ideal) a.x1 a.x4 a.x5 (ix4 (flat b s) h i r)
      = Net.dense a.net.Wq a.net.bq ((a.tok b s).nf i) (lane h r) := by
  pointwise [val_main_v6, val_main_v5, val_main_v4, val_main_v3, val_main_v2, val_main_v1]
  simp only [nf_apply]
  rfl

/-- The keys. -/
theorem k_apply (h i : Fin 8) (r : Fin 64) :
    val_main_v12 (F := Ideal) a.x1 a.x6 a.x7 (ix4 (flat b s) h i r)
      = Net.dense a.net.Wk a.net.bk ((a.tok b s).nf i) (lane h r) := by
  pointwise [val_main_v12, val_main_v11, val_main_v10, val_main_v9, val_main_v8, val_main_v7]
  simp only [nf_apply]
  rfl

/-- The scores of the attention. -/
theorem score_apply (h i j : Fin 8) :
    val_main_v28 (F := Ideal) a.x1 a.x4 a.x5 a.x6 a.x7 (ix4 (flat b s) h i j) = a.net.score (a.tok b s) h i j := by
  pointwise [val_main_v28, val_main_v27, val_main_v26, val_main_v25, val_main_cst_1]
  rw [ofBits_eight, Ideal.div_coe (by norm_num)]
  simp only [q_apply, k_apply]
  rfl

/-- The weights of the attention. -/
theorem soft_apply (H : Tame a.net (a.tok b s)) (h i j : Fin 8) :
    val_main_v39 (F := Ideal) a.x1 a.x4 a.x5 a.x6 a.x7 (ix4 (flat b s) h i j)
      = soft (a.net.score (a.tok b s) h i) j := by
  pointwise [val_main_v39, val_main_v38, val_main_v37, val_main_v36, val_main_v35, val_main_v34, val_main_v33,
    val_main_v32, val_main_v31, val_main_v30, val_main_v29, val_main_cst_2, val_main_cst_3, val_main_cst_4]
  simp only [ofBits_bot, score_apply, max_bot_left, bot_sup_eq, Ideal.ofBits_zero_f32, zero_add]
  exact soft_eq_div (H.score h i) j

/-- The sigmoid values. -/
theorem v_apply (h i : Fin 8) (r : Fin 64) :
    val_main_v24 (F := Ideal) a.x1 a.x8 a.x9 (ix4 (flat b s) h i r)
      = Ideal.logistic (Net.dense a.net.Wv a.net.bv ((a.tok b s).nf i) (lane h r)) := by
  pointwise [val_main_v24, val_main_v23, val_main_v22, val_main_v21, val_main_v20, val_main_v19, val_main_v18,
    val_main_v17, val_main_v16, val_main_v15, val_main_v14, val_main_v13, val_main_cst, val_main_cst_0]
  simp only [nf_apply]
  rfl

/-- The gates. -/
theorem gate_apply (H : Tame a.net (a.tok b s)) (i : Fin 8) (c : Fin 512) :
    val_main_v42 (F := Ideal) a.x1 a.x4 a.x5 a.x6 a.x7 a.x8 a.x9 (ix4 b s i c) = a.net.gate (a.tok b s) i c := by
  have hf : (⟨b.val * 16 + s.val, by omega⟩ : Fin 512) = flat b s := rfl
  have hl : lane ⟨c.val / 64, by omega⟩ ⟨c.val % 64, by omega⟩ = c := Fin.ext (by simp only [lane]; omega)
  pointwise [val_main_v42, val_main_v41, val_main_v40]
  simp only [hf, soft_apply a b s H, v_apply, hl]
  rfl

/-- The neurons put together. -/
theorem agg_apply (H : Tame a.net (a.tok b s)) (c : Fin 512) :
    val_main_v47 (F := Ideal) a.x1 a.x2 a.x4 a.x5 a.x6 a.x7 a.x8 a.x9 (ix3 b s c) = a.net.agg (a.tok b s) c := by
  pointwise [val_main_v47, val_main_v46, val_main_v45, val_main_v44, val_main_v43, val_main_cst_5]
  simp only [gate_apply a b s H]
  rfl

/-- A half of a quotient by the root of `512` is the product with the reciprocal of the root of `2048`. -/
theorem half_div_root (x : EReal) :
    Ideal.ofBits .f32 0x3F000000#32 * Ideal.div x (Ideal.sqrt (Ideal.ofBits .f32 0x44000000#32))
      = x * (((Real.sqrt 2048)⁻¹ : ℝ) : EReal) := by
  have h0 : Real.sqrt 512 ≠ 0 := (Real.sqrt_pos.mpr (by norm_num)).ne'
  have h4 : Real.sqrt 2048 = 2 * Real.sqrt 512 := by
    rw [show (2048 : ℝ) = 2 ^ 2 * 512 by norm_num, Real.sqrt_mul (by norm_num), Real.sqrt_sq (by norm_num)]
  rw [ofBits_half, ofBits_512, Ideal.sqrt_coe, if_neg (by norm_num), Ideal.div_coe h0, mul_left_comm, ← EReal.coe_mul, h4]
  congr 2
  field_simp

/-- The patterns' scores. -/
theorem pscore_apply (H : Tame a.net (a.tok b s)) (n : Fin 32) :
    val_main_v59 (F := Ideal) a.x1 a.x2 a.x3 a.x4 a.x5 a.x6 a.x7 a.x8 a.x9 a.x10 (ix3 b s n)
      = a.net.pscore (a.tok b s) n := by
  pointwise [val_main_v59, val_main_v58, val_main_v57, val_main_v56, val_main_v55, val_main_v54, val_main_v53,
    val_main_v52, val_main_v51, val_main_v50, val_main_v49, val_main_v48, val_main_cst_6, val_main_cst_7, val_main_cst_8]
  rw [half_div_root, ofBits_half, mul_comm (((1 / 2 : ℝ) : EReal))]
  simp only [agg_apply a b s H]
  rfl

/-- The vector that the feed-forward layer is applied to. -/
theorem comb_apply (H : Tame a.net (a.tok b s)) (c : Fin 512) :
    val_main_v71 (F := Ideal) a.x0 a.x1 a.x2 a.x4 a.x5 a.x6 a.x7 a.x8 a.x9 (ix3 b s c) = a.net.comb (a.tok b s) c := by
  pointwise [val_main_v71]
  rw [agg_apply a b s H]
  rfl

end Args

end Cert.KProof

end
-- ==== Proof.KernRead.lean ====
/- The kernel's blocks in terms of its arguments: the weights of every grid point are the arguments', and row `l` of point
   `t` is token `256 * t + l` of the flat list. -/
module

public import proofs.«01_k».proof.Proof.BlockOut
public import proofs.«01_k».proof.Proof.RefAttn
public import Idealize.ShloMosaic.Lib.Claim

@[expose] public section

set_option maxRecDepth 16384

noncomputable section

namespace Cert.KProof.Kern

open Cert.KernelIdeal Cert.KernelIdeal.Gen Cert.KProof.Block Idealize.ShloMosaic Idealize.ShloMosaic.TcCoe Idealize.SL.Sem

variable (m : (ℓ : Loc nD τ sig) → Buf (Elt Ideal) ℓ) (c : Dev nD)

/-- The arguments in a launch memory. -/
def args : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)

/-- The blocks of grid point `t`. -/
def blocks (t : Fin grid0.N) : Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t

/-- Which block each window stages at each point: the token windows move along the tokens, the rest stay. -/
theorem idx : ∀ t : Fin cfg0.N, win0_0.index t = ![t.val, 0] ∧ win0_1.index t = ![t.val, 0] ∧ win0_2.index t = ![t.val, 0]
    ∧ win0_3.index t = ![0, t.val] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![t.val, 0] :=
  (by decide +kernel : ∀ t : Fin grid0.N, _)

/-- The token of row `l` of point `t` in the flat list. -/
def tokenOf (t : Fin grid0.N) (l : Fin 256) : Fin 512 :=
  ⟨256 * t.val + l.val, by have : t.val < 2 := t.isLt; omega⟩

/-- The sequence that a token of the flat list is in. -/
def seqAt (p : Fin 512) : Fin 32 := ⟨p.val / 16, by omega⟩

/-- Its place in the sequence. -/
def posAt (p : Fin 512) : Fin 16 := ⟨p.val % 16, by omega⟩

/-! ## What the kernel is called on: the arguments, laid out anew -/

/-- The neurons, one row per token, one neuron after another. -/
theorem v0_apply (p : Fin 512) (i : Fin 8) (k : Fin 512) :
    V m c main_v0 (ix2 p (ncol i k)) = m ((c.tc : Thread nD τ).loc main_arg1) (ix4 (seqAt p) (posAt p) i k) := by
  unfold V V0
  simp only [hostOps0, List.flatten_cons, List.flatten_nil, List.append_nil, List.cons_append, List.nil_append]
  after_results
  pointwise
  blk_ext [ncol, seqAt, posAt]

/-- The tokens' own vectors. -/
theorem v1_apply (p k : Fin 512) :
    V m c main_v1 (ix2 p k) = m ((c.tc : Thread nD τ).loc main_arg0) (ix3 (seqAt p) (posAt p) k) := by
  unfold V V0
  simp only [hostOps0, List.flatten_cons, List.flatten_nil, List.append_nil, List.cons_append, List.nil_append]
  after_results
  pointwise
  rfl

/-- The tokens' contexts. -/
theorem v2_apply (p k : Fin 512) :
    V m c main_v2 (ix2 p k) = m ((c.tc : Thread nD τ).loc main_arg3) (ix3 (seqAt p) (posAt p) k) := by
  unfold V V0
  simp only [hostOps0, List.flatten_cons, List.flatten_nil, List.append_nil, List.cons_append, List.nil_append]
  after_results
  pointwise
  rfl

/-- The neurons' weights, one column per token. -/
theorem v4_apply (i : Fin 8) (p : Fin 512) :
    V m c main_v4 (ix2 i p) = m ((c.tc : Thread nD τ).loc main_arg2) (ix3 (seqAt p) (posAt p) i) := by
  unfold V V0
  simp only [hostOps0, List.flatten_cons, List.flatten_nil, List.append_nil, List.cons_append, List.nil_append]
  after_results
  pointwise
  rfl

/-- The patterns' first matrices, turned and stacked. -/
theorem v6_apply (n : Fin 32) (k : Fin 512) (r : Fin 32) :
    V m c main_v6 (ix2 (prow n r) k) = m ((c.tc : Thread nD τ).loc main_arg11) (ix3 n k r) := by
  unfold V V0
  simp only [hostOps0, List.flatten_cons, List.flatten_nil, List.append_nil, List.cons_append, List.nil_append]
  after_results
  pointwise
  blk_ext [prow]

/-- The patterns' second matrices, stacked. -/
theorem v7_apply (n r : Fin 32) (f : Fin 1024) :
    V m c main_v7 (ix2 (prow n r) f) = m ((c.tc : Thread nD τ).loc main_arg12) (ix3 n r f) := by
  unfold V V0
  simp only [hostOps0, List.flatten_cons, List.flatten_nil, List.append_nil, List.cons_append, List.nil_append]
  after_results
  pointwise
  blk_ext [prow]

/-- The queries' bias as a column. -/
theorem v8_apply (p : Fin 512) :
    V m c main_v8 (ix2 p 0) = m ((c.tc : Thread nD τ).loc main_arg5) (ix1 p) := by
  unfold V V0
  simp only [hostOps0, List.flatten_cons, List.flatten_nil, List.append_nil, List.cons_append, List.nil_append]
  after_results
  pointwise

/-- The keys' bias as a column. -/
theorem v9_apply (p : Fin 512) :
    V m c main_v9 (ix2 p 0) = m ((c.tc : Thread nD τ).loc main_arg7) (ix1 p) := by
  unfold V V0
  simp only [hostOps0, List.flatten_cons, List.flatten_nil, List.append_nil, List.cons_append, List.nil_append]
  after_results
  pointwise

/-- The gates' bias as a column. -/
theorem v10_apply (p : Fin 512) :
    V m c main_v10 (ix2 p 0) = m ((c.tc : Thread nD τ).loc main_arg9) (ix1 p) := by
  unfold V V0
  simp only [hostOps0, List.flatten_cons, List.flatten_nil, List.append_nil, List.cons_append, List.nil_append]
  after_results
  pointwise

/-- The plain projection's bias as a column. -/
theorem v11_apply (p : Fin 1024) :
    V m c main_v11 (ix2 p 0) = m ((c.tc : Thread nD τ).loc main_arg14) (ix1 p) := by
  unfold V V0
  simp only [hostOps0, List.flatten_cons, List.flatten_nil, List.append_nil, List.cons_append, List.nil_append]
  after_results
  pointwise

/-- The result's bias as a row. -/
theorem v12_apply (p : Fin 512) :
    V m c main_v12 (ix2 0 p) = m ((c.tc : Thread nD τ).loc main_arg16) (ix1 p) := by
  unfold V V0
  simp only [hostOps0, List.flatten_cons, List.flatten_nil, List.append_nil, List.cons_append, List.nil_append]
  after_results
  pointwise

/-! ## The blocks -/

section blocks

variable (t : Fin grid0.N)

/-- Its neurons. -/
theorem x0_apply (l : Fin 256) (i : Fin 8) (k : Fin 512) : iblk m c 0 t (ix2 l (ncol i k)) = m ((c.tc : Thread nD τ).loc main_arg1) (ix4 (seqAt (tokenOf t l)) (posAt (tokenOf t l)) i k) := by
  refine Eq.trans (b := V m c main_v0 (ix2 (tokenOf t l) (ncol i k))) ?_ (v0_apply m c _ i k)
  blk_ext [iblk, idx t, tokenOf]

/-- Its tokens' own vectors. -/
theorem x1_apply (l : Fin 256) (k : Fin 512) : iblk m c 1 t (ix2 l k) = m ((c.tc : Thread nD τ).loc main_arg0) (ix3 (seqAt (tokenOf t l)) (posAt (tokenOf t l)) k) := by
  refine Eq.trans (b := V m c main_v1 (ix2 (tokenOf t l) k)) ?_ (v1_apply m c _ k)
  blk_ext [iblk, idx t, tokenOf]

/-- Its tokens' contexts. -/
theorem x2_apply (l : Fin 256) (k : Fin 512) : iblk m c 2 t (ix2 l k) = m ((c.tc : Thread nD τ).loc main_arg3) (ix3 (seqAt (tokenOf t l)) (posAt (tokenOf t l)) k) := by
  refine Eq.trans (b := V m c main_v2 (ix2 (tokenOf t l) k)) ?_ (v2_apply m c _ k)
  blk_ext [iblk, idx t, tokenOf]

/-- Its neurons' weights. -/
theorem x3_apply (l : Fin 256) (i : Fin 8) : iblk m c 3 t (ix2 i l) = m ((c.tc : Thread nD τ).loc main_arg2) (ix3 (seqAt (tokenOf t l)) (posAt (tokenOf t l)) i) := by
  refine Eq.trans (b := V m c main_v4 (ix2 i (tokenOf t l))) ?_ (v4_apply m c i _)
  blk_ext [iblk, idx t, tokenOf]

/-- The queries' matrix. -/
theorem x4_apply (k : Fin 512) (f : Fin 512) : iblk m c 4 t (ix2 k f) = m ((c.tc : Thread nD τ).loc main_arg4) (ix2 k f) := by
  blk_ext! [iblk, V, idx t]

/-- The keys' matrix. -/
theorem x6_apply (k : Fin 512) (f : Fin 512) : iblk m c 6 t (ix2 k f) = m ((c.tc : Thread nD τ).loc main_arg6) (ix2 k f) := by
  blk_ext! [iblk, V, idx t]

/-- The gates' matrix. -/
theorem x8_apply (k : Fin 512) (f : Fin 512) : iblk m c 8 t (ix2 k f) = m ((c.tc : Thread nD τ).loc main_arg8) (ix2 k f) := by
  blk_ext! [iblk, V, idx t]

/-- The patterns' queries. -/
theorem x10_apply (k : Fin 32) (f : Fin 512) : iblk m c 10 t (ix2 k f) = m ((c.tc : Thread nD τ).loc main_arg10) (ix2 k f) := by
  blk_ext! [iblk, V, idx t]

/-- The plain projection's matrix. -/
theorem x13_apply (k : Fin 512) (f : Fin 1024) : iblk m c 13 t (ix2 k f) = m ((c.tc : Thread nD τ).loc main_arg13) (ix2 k f) := by
  blk_ext! [iblk, V, idx t]

/-- The result's matrix. -/
theorem x15_apply (k : Fin 1024) (f : Fin 512) : iblk m c 15 t (ix2 k f) = m ((c.tc : Thread nD τ).loc main_arg15) (ix2 k f) := by
  blk_ext! [iblk, V, idx t]

/-- The queries' bias. -/
theorem x5_apply (p : Fin 512) : iblk m c 5 t (ix2 p 0) = m ((c.tc : Thread nD τ).loc main_arg5) (ix1 p) := by
  refine Eq.trans (b := V m c main_v8 (ix2 p 0)) ?_ (v8_apply m c p)
  blk_ext [iblk, idx t, tokenOf]

/-- The keys' bias. -/
theorem x7_apply (p : Fin 512) : iblk m c 7 t (ix2 p 0) = m ((c.tc : Thread nD τ).loc main_arg7) (ix1 p) := by
  refine Eq.trans (b := V m c main_v9 (ix2 p 0)) ?_ (v9_apply m c p)
  blk_ext [iblk, idx t, tokenOf]

/-- The gates' bias. -/
theorem x9_apply (p : Fin 512) : iblk m c 9 t (ix2 p 0) = m ((c.tc : Thread nD τ).loc main_arg9) (ix1 p) := by
  refine Eq.trans (b := V m c main_v10 (ix2 p 0)) ?_ (v10_apply m c p)
  blk_ext [iblk, idx t, tokenOf]

/-- The plain projection's bias. -/
theorem x14_apply (p : Fin 1024) : iblk m c 14 t (ix2 p 0) = m ((c.tc : Thread nD τ).loc main_arg14) (ix1 p) := by
  refine Eq.trans (b := V m c main_v11 (ix2 p 0)) ?_ (v11_apply m c p)
  blk_ext [iblk, idx t, tokenOf]

set_option maxHeartbeats 1000000 in
/-- The patterns' first matrices. -/
theorem x11_apply (n : Fin 32) (k : Fin 512) (r : Fin 32) : iblk m c 11 t (ix2 (prow n r) k) = m ((c.tc : Thread nD τ).loc main_arg11) (ix3 n k r) := by
  refine Eq.trans (b := V m c main_v6 (ix2 (prow n r) k)) ?_ (v6_apply m c n k r)
  blk_ext [iblk, idx t, tokenOf]

set_option maxHeartbeats 1000000 in
/-- The patterns' second matrices. -/
theorem x12_apply (n r : Fin 32) (f : Fin 1024) : iblk m c 12 t (ix2 (prow n r) f) = m ((c.tc : Thread nD τ).loc main_arg12) (ix3 n r f) := by
  refine Eq.trans (b := V m c main_v7 (ix2 (prow n r) f)) ?_ (v7_apply m c n r f)
  blk_ext [iblk, idx t, tokenOf]

/-- The result's bias. -/
theorem x16_apply (p : Fin 512) : iblk m c 16 t (ix2 0 p) = m ((c.tc : Thread nD τ).loc main_arg16) (ix1 p) := by
  refine Eq.trans (b := V m c main_v12 (ix2 0 p)) ?_ (v12_apply m c p)
  blk_ext [iblk, idx t, tokenOf]

/-- Every point has the arguments' weights. -/
theorem blocks_net : (blocks m c t).net = (args m c).net := by
  apply Net.ext
  · funext k f; exact x4_apply m c t k f
  · funext k; exact x5_apply m c t k
  · funext k f; exact x6_apply m c t k f
  · funext k; exact x7_apply m c t k
  · funext k f; exact x8_apply m c t k f
  · funext k; exact x9_apply m c t k
  · funext k f; exact x10_apply m c t k f
  · funext n k r; exact x11_apply m c t n k r
  · funext n r f; exact x12_apply m c t n r f
  · funext k f; exact x13_apply m c t k f
  · funext k; exact x14_apply m c t k
  · funext k f; exact x15_apply m c t k f
  · funext k; exact x16_apply m c t k

/-- Row `l` of point `t` is token `256 * t + l`. -/
theorem blocks_tok (l : Fin 256) : (blocks m c t).tok l = (args m c).tok (seqAt (tokenOf t l)) (posAt (tokenOf t l)) :=
  Tok.ext (funext fun _ => funext fun _ => x0_apply m c t l _ _) (funext fun _ => x1_apply m c t l _)
    (funext fun _ => x2_apply m c t l _) (funext fun _ => x3_apply m c t l _)

end blocks

end Cert.KProof.Kern

end
-- ==== Proof.KernArray.lean ====
/- The kernel's result: after the run, the array of results holds at every token the layer's result there. -/
module

public import proofs.«01_k».proof.Proof.KernRead

@[expose] public section

set_option maxRecDepth 16384

noncomputable section

namespace Cert.KProof.Kern

open Cert.KernelIdeal Cert.KernelIdeal.Gen Cert.KProof.Block Idealize.ShloMosaic Idealize.ShloMosaic.TcCoe Idealize.SL.Sem
open Idealize.ShloMosaic.Pipeline (Dat)

variable (m : (ℓ : Loc nD τ sig) → Buf (Elt Ideal) ℓ) (c : Dev nD)

/-- What the kernel computes for token `s` of sequence `b`. -/
def result (b : Fin 32) (s : Fin 16) (d : Fin 512) : EReal :=
  (args m c).net.out ((args m c).tok b s) (fun k => picked ((args m c).net.pscore ((args m c).tok b s)) k.val) d

/-- The array of results: one row per token. -/
def rows : FVec Ideal S512x512 .f32 := fun y => result m c (seqAt (y 0)) (posAt (y 0)) (y 1)

/-- A block's results at a row that is the token `T` of a layer `N`. -/
theorem block_apply (x : Blocks) (l : Fin 256) (d : Fin 512) {N : Net} {T : Tok} (hN : x.net = N) (hT : x.tok l = T)
    (h : Tame N T) : x.out (ix2 l d) = N.out T (fun k => picked (N.pscore T) k.val) d := by
  subst hN hT
  exact Blocks.out_apply h d

/-- The kernel's result, one sequence after another. -/
def sequences : FVec Ideal S32x16x512 .f32 := fun i => result m c (i 0) (i 1) (i 2)

variable (H : ∀ b s, Tame (args m c).net ((args m c).tok b s))
include H

omit H in
/-- The block of results of a point is that of its blocks. -/
theorem outs_blocks (t : Fin grid0.N) : outsAt0 m c t = (blocks m c t).out := by
  rw [outs_eq]
  rfl

/-- The block of results of a point. -/
theorem outs_apply (t : Fin grid0.N) (l : Fin 256) (d : Fin 512) :
    (blocks m c t).out (ix2 l d) = result m c (seqAt (tokenOf t l)) (posAt (tokenOf t l)) d := by
  have h : Tame (args m c).net ((args m c).tok (seqAt (tokenOf t l)) (posAt (tokenOf t l))) := H _ _
  exact block_apply (blocks m c t) l d (blocks_net m c t) (blocks_tok m c t l) h

/-- After the run the array of results is `rows`. -/
theorem final : (dats m 0 c).arrAt 17 cfg0.N = rows m c := by
  refine (dats m 0 c).arrAt_eq_of_covers 17 _ (by decide +kernel) fun t hf y => ?_
  blk_simp
  rw [after0_17, outs_blocks]
  obtain ⟨l, d, rfl⟩ : ∃ (l : Fin 256) (d : Fin 512), y = ix2 l d := ⟨y 0, y 1, eq_ix2 y⟩
  have e : (win0_17.blk t).view.emb (ix2 l d) = ix2 (tokenOf t l) d := by blk_ext [idx t, tokenOf]
  rw [outs_apply m c H t l d, e]
  rfl

omit H in
/-- The kernel's result is the array of results, one sequence after another. -/
theorem tail_eq : Pipeline.afterTail₀ cfgs (dats m) 0 (V0 m) [hostOps1] c main_v14
    = shapeCast S32x16x512 ((dats m 0 c).arrAt 17 cfg0.N) shapeCasts_S512x512_S32x16x512 := by
  unfold Pipeline.afterTail₀
  simp only [hostOps1, List.flatten_cons, List.flatten_nil, List.append_nil, List.cons_append, List.nil_append]
  after_results
  have e := Pipeline.withArrays_arr spec0 (by decide) c (V0 m c) (fun w => (dats m 0 c).arrAt w cfg0.N) 17
  exact congrArg (fun A : FVec Ideal S512x512 .f32 => shapeCast S32x16x512 A shapeCasts_S512x512_S32x16x512) e

omit H in
/-- The rows of an array put together to sequences. -/
theorem cast_apply (X : FVec Ideal S512x512 .f32) (b : Fin 32) (s : Fin 16) (d : Fin 512) :
    shapeCast S32x16x512 X shapeCasts_S512x512_S32x16x512 (ix3 b s d) = X (ix2 (Args.flat b s) d) := by
  pointwise
  blk_ext [Args.flat]

omit H in
/-- The array of results put together to sequences. -/
theorem cast_rows : shapeCast S32x16x512 (rows m c) shapeCasts_S512x512_S32x16x512 = sequences m c := by
  funext i
  obtain ⟨b, s, d, rfl⟩ : ∃ (b : Fin 32) (s : Fin 16) (d : Fin 512), i = ix3 b s d := ⟨i 0, i 1, i 2, eq_ix3 i⟩
  rw [cast_apply]
  change result m c (seqAt (Args.flat b s)) (posAt (Args.flat b s)) d = result m c b s d
  have h1 : seqAt (Args.flat b s) = b := Fin.ext (by simp only [seqAt, Args.flat]; omega)
  have h2 : posAt (Args.flat b s) = s := Fin.ext (by simp only [posAt, Args.flat]; omega)
  rw [h1, h2]

/-- The run leaves the kernel's result. -/
theorem tail_sequences : Pipeline.afterTail₀ cfgs (dats m) 0 (V0 m) [hostOps1] c main_v14 = sequences m c :=
  (tail_eq m c).trans ((congrArg (fun A : FVec Ideal S512x512 .f32 => shapeCast S32x16x512 A shapeCasts_S512x512_S32x16x512)
    (final m c H)).trans (cast_rows m c))

end Cert.KProof.Kern

end
-- ==== Proof.RefPick.lean ====
/- The reference's four best patterns, and the rows of a table taken at them. -/
module

public import proofs.«01_k».proof.Proof.RefAttn
public import Idealize.ShloMosaic.Lib.SortPrefix

@[expose] public section

set_option maxRecDepth 16384

noncomputable section

namespace Cert.KProof

open Cert.ReferenceIdeal Cert.ReferenceIdeal.Gen Cert.ReferenceIdeal.Read Idealize.ShloMosaic Idealize.ShloMosaic.TcCoe Idealize.SL.Sem

/-- A stable sort of an increasing list by a key is the sort by the key and then the position. -/
theorem stableSort_position {n : ℕ} (R : Fin n → Fin n → Bool) (tie : Fin n → Fin n → Bool) :
    ∀ l : List (Fin n), l.Pairwise (· < ·) →
      stableSort R l = stableSort (fun a b => R a b || (tie a b && decide (a < b))) l
  | [], _ => rfl
  | a :: l, h => by
    rw [List.pairwise_cons] at h
    unfold stableSort
    rw [← stableSort_position R tie l h.2]
    refine insertBefore_congr _ _ a _ fun b hb => ?_
    have hab : a < b := h.1 b ((perm_stableSort R l).mem_iff.mp hb)
    simp [hab.le]

/-- What comes before in the ranking comes before in the stable sort by decreasing score. -/
theorem sortedFrom_ranked (sc : Fin 32 → EReal) (σ : Fin 4 → Fin 32) (H : Ranked sc σ) (k : Fin 4) :
    sortedFrom (fun a b : Fin 32 => decide (sc b < sc a)) (k.castLE (by omega)) = σ k := by
  classical
  have hB := StrictTotalBefore.of_key_then_position (fun x y : EReal => decide (y < x)) sc (by simp)
    (fun a b c h1 h2 => by simp only [decide_eq_true_eq] at *; exact h2.trans h1)
    (fun a b => by simp only [decide_eq_true_eq]; rcases lt_trichotomy a b with h | h | h <;> simp [h])
  have hbef : ∀ a b, Before sc a b →
      (decide (sc a < sc b) || (decide (sc b = sc a) && decide (b < a))) = false := fun a b h => by
    rcases h with h | ⟨h, h'⟩
    · simp [h.le, h.ne]
    · simp [h, h'.le]
  have := hB.sortedFrom_eq_of_prefix (by omega : 4 ≤ 32) σ H.inj (fun i j h => hbef _ _ (H.ord i j h))
    (fun i p h => hbef _ _ (H.dom i p h)) k
  rw [← this]
  unfold sortedFrom sortPositions
  rw [List.get_of_eq (stableSort_position _ (fun a b => decide (sc a = sc b)) _ (List.pairwise_lt_finRange 32))]
  rfl

/-- Cutting the last axis to its first four places. -/
theorem slice_apply {α : Type} (v : S32x16x32.Idx → α) (b : Fin 32) (s : Fin 16) (k : Fin 4) :
    extractStridedSlice S32x16x4 (fun _ => 0) v sliceFits_S32x16x32_S32x16x4 (ix3 b s k)
      = v (ix3 b s (k.castLE (by omega))) := by
  unfold extractStridedSlice
  congr 1
  funext a
  refine Fin.ext ?_
  match a with
  | ⟨0, _⟩ => exact Nat.zero_add _
  | ⟨1, _⟩ => exact Nat.zero_add _
  | ⟨2, _⟩ => exact Nat.zero_add _

/-- The axis of the patterns. -/
abbrev patternAxis : Fin S32x16x32.rank := ⟨2, by decide⟩

/-- Moving along the last axis. -/
theorem along_apply (b : Fin 32) (s : Fin 16) (m n : Fin 32) :
    Shape.Idx.along (s := S32x16x32) (ix3 b s m) patternAxis n = ix3 b s n := by
  funext a
  match a with
  | ⟨0, _⟩ => rfl
  | ⟨1, _⟩ => rfl
  | ⟨2, _⟩ => rfl

/-- The place moved to. -/
theorem along_self (j : S32x16x32.Idx) (n : Fin 32) : Shape.Idx.along (s := S32x16x32) j patternAxis n patternAxis = n :=
  Function.update_self _ _ _

/-- Where the `k`-th place of the sort along the last axis comes from, where `σ` lists the four best. -/
theorem sorted_place (x : FVec Ideal S32x16x32 .f32) (b : Fin 32) (s : Fin 16) (σ : Fin 4 → Fin 32)
    (H : Ranked (fun n => x (ix3 b s n)) σ) (k : Fin 4) :
    sortedFrom (n := 32) (fun m m' => FloatOps.cmpfTotal (F := Ideal) (φ := .f32) .gt
        (x (Shape.Idx.along (s := S32x16x32) (ix3 b s (k.castLE (by omega))) patternAxis m))
        (x (Shape.Idx.along (s := S32x16x32) (ix3 b s (k.castLE (by omega))) patternAxis m')) == 1#1)
      (k.castLE (by omega)) = σ k := by
  simp only [along_apply]
  rw [← sortedFrom_ranked (fun n => x (ix3 b s n)) σ H k]
  congr 1
  funext m m'
  show (BitVec.ofBool (decide (x (ix3 b s m') < x (ix3 b s m))) == 1#1) = decide (x (ix3 b s m') < x (ix3 b s m))
  cases decide (x (ix3 b s m') < x (ix3 b s m)) <;> rfl

/-- The values of the four best, where `σ` lists them. -/
theorem topK_values (x : FVec Ideal S32x16x32 .f32) (b : Fin 32) (s : Fin 16) (σ : Fin 4 → Fin 32)
    (H : Ranked (fun n => x (ix3 b s n)) σ) (k : Fin 4) :
    (Host.topK S32x16x4 2 (FloatOps.cmpfTotal (F := Ideal) (φ := .f32) .gt) x sliceFits_S32x16x32_S32x16x4).1 (ix3 b s k)
      = x (ix3 b s (σ k)) := by
  show extractStridedSlice S32x16x4 (fun _ => 0) (fun j : S32x16x32.Idx => x (j.along patternAxis
    (sortedFrom (n := 32) (fun m m' => FloatOps.cmpfTotal (F := Ideal) (φ := .f32) .gt (x (j.along patternAxis m))
      (x (j.along patternAxis m')) == 1#1) (j patternAxis)))) sliceFits_S32x16x32_S32x16x4 (ix3 b s k) = _
  rw [slice_apply, ← sorted_place x b s σ H k]
  exact congrArg x (along_apply b s _ _)

/-- The numbers of the four best. -/
theorem topK_indices (x : FVec Ideal S32x16x32 .f32) (b : Fin 32) (s : Fin 16) (σ : Fin 4 → Fin 32)
    (H : Ranked (fun n => x (ix3 b s n)) σ) (k : Fin 4) :
    (Host.topK S32x16x4 2 (FloatOps.cmpfTotal (F := Ideal) (φ := .f32) .gt) x sliceFits_S32x16x32_S32x16x4).2 (ix3 b s k)
      = BitVec.ofNat 32 (σ k).val := by
  unfold Host.topK Host.sort2
  simp only [show (2 : ℕ) < S32x16x32.rank from by decide, dite_true]
  rw [slice_apply]
  unfold iotaInDim
  exact congrArg (fun m : Fin 32 => BitVec.ofNat 32 m.val) ((along_self _ _).trans (sorted_place x b s σ H k))

/-- Taking whole matrices of a table at the numbers in a column. -/
def matDims (M R P Q : ℕ)
    (wf : GatherDims.WF ⟨3, ![R, P, Q]⟩ ⟨2, ![M, 1]⟩ ⟨3, ![M, P, Q]⟩ [1, 2] [0] [] [0] [] 1 ![1, P, Q]) :
    GatherDims ⟨3, ![R, P, Q]⟩ ⟨2, ![M, 1]⟩ ⟨3, ![M, P, Q]⟩ where
  offsetDims := [1, 2]
  collapsedSliceDims := [0]
  operandBatchingDims := []
  startIndicesBatchingDims := []
  startIndexMap := [0]
  indexVectorDim := 1
  sliceSizes := ![1, P, Q]
  wf := wf

/-- Matrix `m` of the result is the table's matrix at the number in row `m`, brought into the table's range. -/
theorem gather_take_mats {M R P Q w : ℕ} (hR : 0 < R)
    (wf : GatherDims.WF ⟨3, ![R, P, Q]⟩ ⟨2, ![M, 1]⟩ ⟨3, ![M, P, Q]⟩ [1, 2] [0] [] [0] [] 1 ![1, P, Q]) {α : Type}
    (x : (⟨3, ![R, P, Q]⟩ : Shape).Idx → α) (idx : IVec ⟨2, ![M, 1]⟩ w) (m : Fin M) (p : Fin P) (q : Fin Q) :
    Host.gather (matDims M R P Q wf) x idx (ix3 m p q)
      = x (ix3 ⟨min (idx (ix2 m 0)).toInt.toNat (R - 1), by omega⟩ p q) := by
  unfold Host.gather
  congr 1
  funext a
  refine Fin.ext ?_
  show (matDims M R P Q wf).start (ix3 m p q) idx a + (matDims M R P Q wf).batchCoord (ix3 m p q) a
    + (matDims M R P Q wf).offCoord (ix3 m p q) a = _
  rw [GatherDims.batchCoord_eq_zero _ _ _ List.not_mem_nil]
  have kept : ∀ c : Fin 3, c ≠ 0 → c ∈ (matDims M R P Q wf).sKept := fun c hc =>
    (GatherDims.mem_sKept _ _).mpr ⟨fun h => hc (List.mem_singleton.mp h), List.not_mem_nil⟩
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (matDims M R P Q wf).startIndexMap from List.mem_singleton.mpr rfl)]
    have hsi : (matDims M R P Q wf).siIdx (ix3 m p q) ⟨List.idxOf (0 : Fin 3) (matDims M R P Q wf).startIndexMap,
        List.idxOf_lt_length_iff.2 (List.mem_singleton.mpr rfl)⟩ = ix2 m 0 := by
      funext c
      refine Fin.ext ?_
      match c with
      | ⟨0, _⟩ => rfl
      | ⟨1, _⟩ => rfl
    rw [hsi]
    rfl
  · unfold GatherDims.start GatherDims.offCoord
    rw [dif_neg (show (1 : Fin 3) ∉ (matDims M R P Q wf).startIndexMap from by simp [matDims]), dif_pos (kept 1 (by decide))]
    simp only [Nat.zero_add]
    rfl
  · unfold GatherDims.start GatherDims.offCoord
    rw [dif_neg (show (2 : Fin 3) ∉ (matDims M R P Q wf).startIndexMap from by simp [matDims]), dif_pos (kept 2 (by decide))]
    simp only [Nat.zero_add]
    rfl

end Cert.KProof

end
-- ==== Proof.RefOut.lean ====
/- The reference, read at a token: the feed-forward layer of the four best patterns, and the result. -/
module

public import proofs.«01_k».proof.Proof.RefPick

@[expose] public section

set_option maxRecDepth 16384

noncomputable section

namespace Cert.KProof

open Cert.ReferenceIdeal Cert.ReferenceIdeal.Gen Cert.ReferenceIdeal.Read Idealize.ShloMosaic Idealize.ShloMosaic.TcCoe Idealize.SL.Sem

/-- A pattern's number is not moved by the wrap of negative numbers. -/
theorem wrap_word (n : Fin 32) :
    Scalar.select (IntOp.cmpi .slt (BitVec.ofNat 32 n.val) 0#32) (IntOp.addi (BitVec.ofNat 32 n.val) 32#32)
      (BitVec.ofNat 32 n.val) = BitVec.ofNat 32 n.val := by
  revert n
  decide

/-- A pattern's number is in the table's range. -/
theorem word_in_range (n : Fin 32) :
    IntOp.andi (IntOp.cmpi .sge (BitVec.ofNat 32 n.val) 0#32) (IntOp.cmpi .sle (BitVec.ofNat 32 n.val) 31#32) = 1#1 := by
  revert n
  decide

/-- The row of the table that a pattern's number names. -/
theorem word_row (n : Fin 32) : min (BitVec.ofNat 32 n.val).toInt.toNat (32 - 1) = n.val := by
  revert n
  decide

namespace Args

variable (a : Args) (b : Fin 32) (s : Fin 16) (σ : Fin 4 → Fin 32)
  (H : Tame a.net (a.tok b s)) (R : Ranked (a.net.pscore (a.tok b s)) σ)

/-- A pick's place in the flat list of picks. -/
def pickAt (k : Fin 4) : Fin 2048 := ⟨b.val * 64 + s.val * 4 + k.val, by omega⟩

include H R

/-- The scores in the array are ranked as the token's. -/
theorem ranked_array : Ranked (fun n => val_main_v59 (F := Ideal) a.x1 a.x2 a.x3 a.x4 a.x5 a.x6 a.x7 a.x8 a.x9 a.x10 (ix3 b s n)) σ := by
  simpa only [pscore_apply a b s H] using R

/-- The scores of the four best. -/
theorem values_apply (k : Fin 4) :
    val_main_values (F := Ideal) a.x1 a.x2 a.x3 a.x4 a.x5 a.x6 a.x7 a.x8 a.x9 a.x10 (ix3 b s k) = a.net.pscore (a.tok b s) (σ k) :=
  (topK_values _ b s σ (ranked_array a b s σ H R) k).trans (pscore_apply a b s H (σ k))

/-- The numbers of the four best. -/
theorem indices_apply (k : Fin 4) :
    val_main_indices (F := Ideal) a.x1 a.x2 a.x3 a.x4 a.x5 a.x6 a.x7 a.x8 a.x9 a.x10 (ix3 b s k) = BitVec.ofNat 32 (σ k).val :=
  topK_indices _ b s σ (ranked_array a b s σ H R) k

/-- The weights of the four best. -/
theorem weights_apply (k : Fin 4) :
    val_main_v70 (F := Ideal) a.x1 a.x2 a.x3 a.x4 a.x5 a.x6 a.x7 a.x8 a.x9 a.x10 (ix3 b s k) = soft (fun k => a.net.pscore (a.tok b s) (σ k)) k := by
  pointwise [val_main_v70, val_main_v69, val_main_v68, val_main_v67, val_main_v66, val_main_v65, val_main_v64,
    val_main_v63, val_main_v62, val_main_v61, val_main_v60, val_main_cst_9, val_main_cst_10, val_main_cst_11]
  simp only [ofBits_bot, values_apply a b s σ H R, bot_sup_eq, Ideal.ofBits_zero_f32, zero_add]
  exact soft_eq_div (fun k => H.pscore (σ k)) k

/-- The flat list of the numbers. -/
theorem flat_index_apply (k : Fin 4) :
    val_main_v72 (F := Ideal) a.x1 a.x2 a.x3 a.x4 a.x5 a.x6 a.x7 a.x8 a.x9 a.x10 (ix1 (pickAt b s k)) = BitVec.ofNat 32 (σ k).val := by
  pointwise [val_main_v72]
  have h1 : (⟨(pickAt b s k).val / 64, by omega⟩ : Fin 32) = b := Fin.ext (by simp only [pickAt]; omega)
  have h2 : (⟨(pickAt b s k).val / 4 % 16, by omega⟩ : Fin 16) = s := Fin.ext (by simp only [pickAt]; omega)
  have h3 : (⟨(pickAt b s k).val % 4, by omega⟩ : Fin 4) = k := Fin.ext (by simp only [pickAt]; omega)
  rw [h1, h2, h3]
  exact indices_apply a b s σ H R k

/-- The row number that the first taking reads. -/
theorem down_word_apply (k : Fin 4) :
    val_main_call0_v5 (F := Ideal) a.x1 a.x2 a.x3 a.x4 a.x5 a.x6 a.x7 a.x8 a.x9 a.x10 (ix2 (pickAt b s k) 0) = BitVec.ofNat 32 (σ k).val := by
  pointwise [val_main_call0_v5, val_main_call0_v4, val_main_call0_v3, val_main_call0_v2, val_main_call0_v1, val_main_call0_v0,
    val_main_call0_c, val_main_call0_c_0]
  simp only [flat_index_apply a b s σ H R, wrap_word]

/-- The matrices of the picks in the first table. -/
theorem down_apply (k : Fin 4) (p : Fin 512) (q : Fin 32) :
    val_main_v74 (F := Ideal) a.x1 a.x2 a.x3 a.x4 a.x5 a.x6 a.x7 a.x8 a.x9 a.x10 a.x11 (ix5 b s k p q) = a.x11 (ix3 (σ k) p q) := by
  have hp : (⟨b.val * 64 + s.val * 4 + k.val, by omega⟩ : Fin 2048) = pickAt b s k := rfl
  have hg := gather_take_mats (M := 2048) (R := 32) (P := 512) (Q := 32) (by omega)
    gather_S32x512x32_S2048x1_S2048x512x32_12_0_n_n_0_1_151232.wf a.x11 (val_main_call0_v5 (F := Ideal) a.x1 a.x2 a.x3 a.x4 a.x5 a.x6 a.x7 a.x8 a.x9 a.x10) (pickAt b s k) p q
  have hw := down_word_apply a b s σ H R k
  have hn : (⟨min (BitVec.ofNat 32 (σ k).val).toInt.toNat (32 - 1), by omega⟩ : Fin 32) = σ k := Fin.ext (word_row (σ k))
  simp only [hw, hn] at hg
  pointwise [val_main_v74, val_main_v73, val_main_call0_v14, val_main_call0_v15, val_main_call0_v12, val_main_call0_v13,
    val_main_call0_v11, val_main_call0_v10, val_main_call0_v9, val_main_call0_v8, val_main_call0_v7, val_main_call0_v6,
    val_main_call0_c_1, val_main_call0_c_2, val_main_call0_c_3]
  rw [hp, Finset.univ_unique, Finset.fold_singleton]
  have h0 : (default : Fin 1) = 0 := rfl
  rw [h0, hw, word_in_range]
  exact hg

/-- The row number that the second taking reads. -/
theorem up_word_apply (k : Fin 4) :
    val_main_call1_v5 (F := Ideal) a.x1 a.x2 a.x3 a.x4 a.x5 a.x6 a.x7 a.x8 a.x9 a.x10 (ix2 (pickAt b s k) 0) = BitVec.ofNat 32 (σ k).val := by
  pointwise [val_main_call1_v5, val_main_call1_v4, val_main_call1_v3, val_main_call1_v2, val_main_call1_v1, val_main_call1_v0,
    val_main_call1_c, val_main_call1_c_0]
  simp only [flat_index_apply a b s σ H R, wrap_word]

/-- The matrices of the picks in the second table. -/
theorem up_apply (k : Fin 4) (p : Fin 32) (q : Fin 1024) :
    val_main_v76 (F := Ideal) a.x1 a.x2 a.x3 a.x4 a.x5 a.x6 a.x7 a.x8 a.x9 a.x10 a.x12 (ix5 b s k p q) = a.x12 (ix3 (σ k) p q) := by
  have hp : (⟨b.val * 64 + s.val * 4 + k.val, by omega⟩ : Fin 2048) = pickAt b s k := rfl
  have hg := gather_take_mats (M := 2048) (R := 32) (P := 32) (Q := 1024) (by omega)
    gather_S32x32x1024_S2048x1_S2048x32x1024_12_0_n_n_0_1_1321024.wf a.x12 (val_main_call1_v5 (F := Ideal) a.x1 a.x2 a.x3 a.x4 a.x5 a.x6 a.x7 a.x8 a.x9 a.x10) (pickAt b s k) p q
  have hw := up_word_apply a b s σ H R k
  have hn : (⟨min (BitVec.ofNat 32 (σ k).val).toInt.toNat (32 - 1), by omega⟩ : Fin 32) = σ k := Fin.ext (word_row (σ k))
  simp only [hw, hn] at hg
  pointwise [val_main_v76, val_main_v75, val_main_call1_v14, val_main_call1_v15, val_main_call1_v12, val_main_call1_v13,
    val_main_call1_v11, val_main_call1_v10, val_main_call1_v9, val_main_call1_v8, val_main_call1_v7, val_main_call1_v6,
    val_main_call1_c_1, val_main_call1_c_2, val_main_call1_c_3]
  rw [hp, Finset.univ_unique, Finset.fold_singleton]
  have h0 : (default : Fin 1) = 0 := rfl
  rw [h0, hw, word_in_range]
  exact hg

/-- The low-rank projection of the picks. -/
theorem hmid_apply (k : Fin 4) (q : Fin 32) :
    val_main_v81 (F := Ideal) a.x0 a.x1 a.x2 a.x3 a.x4 a.x5 a.x6 a.x7 a.x8 a.x9 a.x10 a.x11 (ix4 b s k q) = a.net.hmid (a.tok b s) (σ k) q := by
  pointwise [val_main_v81, val_main_v80, val_main_v79, val_main_v78, val_main_v77]
  simp only [comb_apply a b s H, down_apply a b s σ H R]
  rfl

/-- The hidden layer of the picks. -/
theorem hpat_apply (k : Fin 4) (f : Fin 1024) :
    val_main_v84 (F := Ideal) a.x0 a.x1 a.x2 a.x3 a.x4 a.x5 a.x6 a.x7 a.x8 a.x9 a.x10 a.x11 a.x12 (ix4 b s k f) = a.net.hpat (a.tok b s) (σ k) f := by
  pointwise [val_main_v84, val_main_v83, val_main_v82]
  simp only [hmid_apply a b s σ H R, up_apply a b s σ H R]
  rfl

/-- The picks' hidden layers put together. -/
theorem hsel_apply (f : Fin 1024) :
    val_main_v88 (F := Ideal) a.x0 a.x1 a.x2 a.x3 a.x4 a.x5 a.x6 a.x7 a.x8 a.x9 a.x10 a.x11 a.x12 (ix3 b s f) = a.net.hsel (a.tok b s) σ f := by
  pointwise [val_main_v88, val_main_v87, val_main_v86, val_main_v85, val_main_cst_12]
  simp only [weights_apply a b s σ H R, hpat_apply a b s σ H R]
  rfl

omit R in
/-- The hidden layer of the plain projection. -/
theorem hbase_apply (f : Fin 1024) :
    val_main_v92 (F := Ideal) a.x0 a.x1 a.x2 a.x4 a.x5 a.x6 a.x7 a.x8 a.x9 a.x13 a.x14 (ix3 b s f)
      = a.net.hbase (a.tok b s) f := by
  pointwise [val_main_v92, val_main_v91, val_main_v90, val_main_v89]
  simp only [comb_apply a b s H]
  rfl

/-- The hidden layer. -/
theorem hid_apply (f : Fin 1024) :
    val_main_v97 (F := Ideal) a.x0 a.x1 a.x2 a.x3 a.x4 a.x5 a.x6 a.x7 a.x8 a.x9 a.x10 a.x11 a.x12 a.x13 a.x14 (ix3 b s f) = a.net.hid (a.tok b s) σ f := by
  pointwise [val_main_v97, val_main_v96, val_main_v95, val_main_v94, val_main_v93, val_main_cst_13, val_main_cst_14]
  rw [hbase_apply a b s H, hsel_apply a b s σ H R]
  rfl

/-- The activated hidden layer. -/
theorem gelu_apply (f : Fin 1024) :
    val_main_v104 (F := Ideal) a.x0 a.x1 a.x2 a.x3 a.x4 a.x5 a.x6 a.x7 a.x8 a.x9 a.x10 a.x11 a.x12 a.x13 a.x14 (ix3 b s f) = Net.gelu (a.net.hid (a.tok b s) σ f) := by
  pointwise [val_main_v104, val_main_v103, val_main_v102, val_main_v101, val_main_v100, val_main_v99, val_main_v98,
    val_main_cst_15, val_main_cst_16]
  rw [hid_apply a b s σ H R, ofBits_half, EReal.neg_mul, Ideal.erfc_neg]
  rfl

/-- The reference's result at a token is the layer's, whatever list of the four best is taken. -/
theorem out_apply (d : Fin 512) :
    val_main_v108 (F := Ideal) a.x0 a.x1 a.x2 a.x3 a.x4 a.x5 a.x6 a.x7 a.x8 a.x9 a.x10 a.x11 a.x12 a.x13 a.x14 a.x15 a.x16 (ix3 b s d) = a.net.out (a.tok b s) σ d := by
  pointwise [val_main_v108, val_main_v107, val_main_v106, val_main_v105]
  simp only [gelu_apply a b s σ H R]
  rfl

end Args

end Cert.KProof

end
-- ==== Proof.Pre.lean ====
/- What the precondition says: every number that the attention scores and the pattern scores are made of is finite. -/
module

public import proofs.«01_k».proof.Pre_scores_finite
public import proofs.«01_k».proof.Proof.RefAttn

@[expose] public section

set_option maxRecDepth 16384

noncomputable section

namespace Cert.KProof

open Idealize.ShloMosaic Idealize.SL.Sem

/-- The shape relations of the precondition's operations. -/
instance preFacts : Cert.Pre_scores_finite.Facts where
  bcast_S_S32x16x8x512 := by decide
  bcast_S_S32x16x8 := by decide
  bcast_S_S32x16x512 := by decide
  bcast_S_S512x512 := by decide
  bcast_S_S512 := by decide
  bcast_S_S32x512 := by decide

/-- A number whose absolute value is below infinity is finite. -/
theorem fin_of_abs {x : EReal} (h : max x (-x) < ⊤) : Fin' x := by
  induction x using EReal.rec with
  | bot => simp at h
  | coe r => exact ⟨r, rfl⟩
  | top => simp at h

/-- Every element of an array whose comparison with infinity is all ones is finite. -/
theorem fin_of_lt {s : Shape} (hb : Cert.Pre_scores_finite.S_.BroadcastsInDim s (![] : Fin 0 → Fin s.rank))
    (x : FVec Ideal s .f32)
    (h : cmpf .olt (Host.absf x) (broadcastInDim s ![] hb (constant (F := Ideal) Cert.Pre_scores_finite.S_ .f32 0x7F800000#32))
      = fun _ => 1#1) (i : s.Idx) : Fin' (x i) := by
  have e := congrFun h i
  change BitVec.ofBool (decide (max (x i) (-(x i)) < Ideal.ofBits .f32 0x7F800000#32)) = 1#1 at e
  rw [ofBits_top] at e
  refine fin_of_abs ?_
  by_contra hn
  rw [decide_eq_false hn] at e
  exact absurd e (by decide)

/-- The precondition makes every token's scores finite. -/
theorem tame_of_pre (a : Args)
    (h : let r := Cert.Pre_scores_finite.fn (F := Ideal) a.x0 a.x1 a.x2 a.x3 a.x4 a.x5 a.x6 a.x7 a.x8 a.x9 a.x10 a.x11 a.x12 a.x13 a.x14 a.x15 a.x16
      r.1 = (fun _ => 1#1) ∧ r.2.1 = (fun _ => 1#1) ∧ r.2.2.1 = (fun _ => 1#1) ∧ r.2.2.2.1 = (fun _ => 1#1)
        ∧ r.2.2.2.2.1 = (fun _ => 1#1) ∧ r.2.2.2.2.2.1 = (fun _ => 1#1) ∧ r.2.2.2.2.2.2.1 = (fun _ => 1#1)
        ∧ r.2.2.2.2.2.2.2 = (fun _ => 1#1)) (b : Fin 32) (s : Fin 16) : Tame a.net (a.tok b s) := by
  obtain ⟨h1, h2, h3, h4, h5, h6, h7, h8⟩ := h
  exact
    { Wq := fun k c => fin_of_lt _ a.x4 h4 (ix2 k c)
      bq := fun c => fin_of_lt _ a.x5 h5 (ix1 c)
      Wk := fun k c => fin_of_lt _ a.x6 h6 (ix2 k c)
      bk := fun c => fin_of_lt _ a.x7 h7 (ix1 c)
      pq := fun n c => fin_of_lt _ a.x10 h8 (ix2 n c)
      nf := fun i c => fin_of_lt _ a.x1 h1 (ix4 b s i c)
      ctx := fun c => fin_of_lt _ a.x3 h3 (ix3 b s c)
      w := fun i => fin_of_lt _ a.x2 h2 (ix3 b s i) }

end Cert.KProof

end
-- ==== Proof.Equal.lean ====
/- The kernel and the reference compute the same: at every token both results are the layer's result there. -/
module

public import proofs.«01_k».proof.Defs
public import proofs.«01_k».proof.Proof.Frames
public import proofs.«01_k».proof.Proof.KernArray
public import proofs.«01_k».proof.Proof.RefOut
public import proofs.«01_k».proof.Proof.Pre

@[expose] public section

set_option maxRecDepth 16384

noncomputable section

namespace Cert.KProof

open Idealize.ShloMosaic Idealize.SL.Sem

/-- The kernel's result as a function of its arguments. -/
def layer (a : Args) : FVec Ideal Cert.ReferenceIdeal.S32x16x512 .f32 := fun i =>
  a.net.out (a.tok (i 0) (i 1)) (fun k : Fin 4 => picked (a.net.pscore (a.tok (i 0) (i 1))) k.val) (i 2)

/-- The reference's result is the same function of its arguments. -/
theorem reference_eq (a : Args) (H : ∀ b s, Tame a.net (a.tok b s)) :
    Cert.ReferenceIdeal.Read.val_main_v108 (F := Ideal) a.x0 a.x1 a.x2 a.x3 a.x4 a.x5 a.x6 a.x7 a.x8 a.x9 a.x10 a.x11 a.x12 a.x13 a.x14 a.x15 a.x16
      = layer a := by
  funext i
  obtain ⟨b, s, d, rfl⟩ : ∃ (b : Fin 32) (s : Fin 16) (d : Fin 512), i = ix3 b s d := ⟨i 0, i 1, i 2, eq_ix3 i⟩
  exact Args.out_apply a b s _ (H b s) (ranked_picked fun n => ((H b s).pscore n).ne_bot) d

/-- The kernel's run: it leaves the layer's result and its arguments unchanged. -/
theorem kernel_run (m : (ℓ : Loc Cert.KernelIdeal.nD Cert.KernelIdeal.τ Cert.KernelIdeal.sig) → Buf (Elt Ideal) ℓ)
    (g : Dev Cert.KernelIdeal.nD → PrngReg) (H : ∀ c b s, Tame (Kern.args m c).net ((Kern.args m c).tok b s)) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v14) = layer (Kern.args m c)) :=
  (θ_run _ _ _).mono (fun _ h c =>
    ((h c).2 Cert.KernelIdeal.main_v14 (Pipeline.mem_restRefs_of Cert.KernelIdeal.main_v14 (by decide) (by decide))).trans
      (Kern.tail_sequences m c (H c))) (Cert.KernelIdeal.Gen.run_main m g)

/-- The reference's arguments in a launch memory. -/
def refArgs (m : (ℓ : Loc Cert.ReferenceIdeal.nD Cert.ReferenceIdeal.τ Cert.ReferenceIdeal.sig) → Buf (Elt Ideal) ℓ) (c : Dev Cert.ReferenceIdeal.nD) : Args where
  x0 := m ((c.tc : Thread Cert.ReferenceIdeal.nD Cert.ReferenceIdeal.τ).loc Cert.ReferenceIdeal.main_arg0)
  x1 := m ((c.tc : Thread Cert.ReferenceIdeal.nD Cert.ReferenceIdeal.τ).loc Cert.ReferenceIdeal.main_arg1)
  x2 := m ((c.tc : Thread Cert.ReferenceIdeal.nD Cert.ReferenceIdeal.τ).loc Cert.ReferenceIdeal.main_arg2)
  x3 := m ((c.tc : Thread Cert.ReferenceIdeal.nD Cert.ReferenceIdeal.τ).loc Cert.ReferenceIdeal.main_arg3)
  x4 := m ((c.tc : Thread Cert.ReferenceIdeal.nD Cert.ReferenceIdeal.τ).loc Cert.ReferenceIdeal.main_arg4)
  x5 := m ((c.tc : Thread Cert.ReferenceIdeal.nD Cert.ReferenceIdeal.τ).loc Cert.ReferenceIdeal.main_arg5)
  x6 := m ((c.tc : Thread Cert.ReferenceIdeal.nD Cert.ReferenceIdeal.τ).loc Cert.ReferenceIdeal.main_arg6)
  x7 := m ((c.tc : Thread Cert.ReferenceIdeal.nD Cert.ReferenceIdeal.τ).loc Cert.ReferenceIdeal.main_arg7)
  x8 := m ((c.tc : Thread Cert.ReferenceIdeal.nD Cert.ReferenceIdeal.τ).loc Cert.ReferenceIdeal.main_arg8)
  x9 := m ((c.tc : Thread Cert.ReferenceIdeal.nD Cert.ReferenceIdeal.τ).loc Cert.ReferenceIdeal.main_arg9)
  x10 := m ((c.tc : Thread Cert.ReferenceIdeal.nD Cert.ReferenceIdeal.τ).loc Cert.ReferenceIdeal.main_arg10)
  x11 := m ((c.tc : Thread Cert.ReferenceIdeal.nD Cert.ReferenceIdeal.τ).loc Cert.ReferenceIdeal.main_arg11)
  x12 := m ((c.tc : Thread Cert.ReferenceIdeal.nD Cert.ReferenceIdeal.τ).loc Cert.ReferenceIdeal.main_arg12)
  x13 := m ((c.tc : Thread Cert.ReferenceIdeal.nD Cert.ReferenceIdeal.τ).loc Cert.ReferenceIdeal.main_arg13)
  x14 := m ((c.tc : Thread Cert.ReferenceIdeal.nD Cert.ReferenceIdeal.τ).loc Cert.ReferenceIdeal.main_arg14)
  x15 := m ((c.tc : Thread Cert.ReferenceIdeal.nD Cert.ReferenceIdeal.τ).loc Cert.ReferenceIdeal.main_arg15)
  x16 := m ((c.tc : Thread Cert.ReferenceIdeal.nD Cert.ReferenceIdeal.τ).loc Cert.ReferenceIdeal.main_arg16)

/-- The reference's run: it leaves the layer's result. -/
theorem reference_run (m : (ℓ : Loc Cert.ReferenceIdeal.nD Cert.ReferenceIdeal.τ Cert.ReferenceIdeal.sig) → Buf (Elt Ideal) ℓ)
    (g : Dev Cert.ReferenceIdeal.nD → PrngReg) (H : ∀ c b s, Tame (refArgs m c).net ((refArgs m c).tok b s)) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v108) = layer (refArgs m c)) :=
  (θ_run _ _ _).mono (fun _ h c =>
    (h c).1.trans ((Cert.ReferenceIdeal.Read.val_main_v108_eq (StableHlo.launchContents m c)).trans (reference_eq (refArgs m c) (H c))))
    (Cert.ReferenceIdeal.Value.run (F := Ideal) m g)

/-- The kernel terminates with its arguments unchanged; the precondition is not needed for that. -/
theorem frame_pi_pre : Cert.quiescent_KernelIdeal_pre_scores_finite := fun m g _ => frame_pi m g trivial

/-- The reference terminates with its arguments unchanged; the precondition is not needed for that. -/
theorem frame_ri_pre : Cert.quiescent_ReferenceIdeal_pre_scores_finite := fun m g _ => frame_ri m g trivial

/-- Over the extended reals, from arguments whose scores are finite, the kernel and the reference leave the same result. -/
theorem algebraic : Cert.algebraic_KernelIdeal_ReferenceIdeal_pre_scores_finite := by
  intro m g m' g' hpre hagree
  have H : ∀ c b s, Tame (Kern.args m c).net ((Kern.args m c).tok b s) := fun c b s => tame_of_pre (Kern.args m c) (hpre c) b s
  have e : ∀ c, refArgs m' c = Kern.args m c := fun c => by
    obtain ⟨h0, h1, h2, h3, h4, h5, h6, h7, h8, h9, h10, h11, h12, h13, h14, h15, h16⟩ := hagree c
    exact Args.ext h0 h1 h2 h3 h4 h5 h6 h7 h8 h9 h10 h11 h12 h13 h14 h15 h16
  have H' : ∀ c b s, Tame (refArgs m' c).net ((refArgs m' c).tok b s) := fun c b s => by rw [e c]; exact H c b s
  refine ⟨fun c => layer (Kern.args m c), ?_, ?_⟩
  · exact (θ_run _ _ _).mono (fun _ h c => ⟨h.1 c, h.2 c⟩) (θ_run_and (kernel_run m g H) (Cert.KernelIdeal.Gen.unchanged m g))
  · exact (θ_run _ _ _).mono (fun _ h c => ⟨(h.1 c).trans (congrArg layer (e c)), (h.2 c).2⟩)
      (θ_run_and (reference_run m' g' H') (Cert.ReferenceIdeal.Value.run (F := Ideal) m' g'))

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, KProof.preFacts,
    KProof.frame_p, KProof.frame_pi, KProof.frame_pi_pre, KProof.frame_ri, KProof.frame_ri_pre, KProof.preserves, KProof.algebraic⟩

end Cert.Proof

end
